-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v26)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "log2e" .f32 0x3FB8AA3B#32 (((Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v34)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v34)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v34) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x4096x1024 : Shape := ⟨3, ![4, 4096, 1024]⟩
abbrev S64 : Shape := ⟨1, ![64]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x1024 .f32) (main_arg1 : FVec F S4x4096x1024 .f32) (main_arg2 : FVec F S4x4096x1024 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S4x4096x1024 : Shape := ⟨3, ![4, 4096, 1024]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S1x128 : Shape := ⟨2, ![1, 128]⟩
abbrev S1x512x512 : Shape := ⟨3, ![1, 512, 512]⟩
abbrev S8x512x128 : Shape := ⟨3, ![8, 512, 128]⟩
abbrev S8x512x256 : Shape := ⟨3, ![8, 512, 256]⟩
abbrev S512x128 : Shape := ⟨2, ![512, 128]⟩
abbrev S1x512x128 : Shape := ⟨3, ![1, 512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1 : Shape := ⟨2, ![1, 1]⟩

abbrev nBuf : Space → Nat
  | .hbm => 24
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .bf16⟩
  | .hbm, ⟨20, _⟩ => ⟨S4x4096x1024, .bf16⟩
  | .hbm, ⟨21, _⟩ => ⟨S4x4096x1024, .bf16⟩
  | .hbm, ⟨22, _⟩ => ⟨S1x128, .f32⟩
  | .hbm, ⟨23, _⟩ => ⟨S4x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S4x64, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S8x512x128, .bf16⟩
  | .local _ .vmem, ⟨11, _⟩ => ⟨S8x512x128, .f32⟩
  | .local _ .vmem, ⟨12, _⟩ => ⟨S8x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![4, 2, 8, 8], ![false, false, false, false]⟩

def k0_cond4 (i : grid0.Coords) : BitVec 1 :=
  let arg3 : BitVec 32 := BitVec.ofNat 32 (i 3).val
  let c7_i32 : BitVec 32 := 7#32
  let v18 : BitVec 1 := Scalar.cmpi .eq arg3 c7_i32
  let v19 : BitVec 32 := Scalar.extui v18
  let c0_i32_7 : BitVec 32 := 0#32
  let v20 : BitVec 1 := Scalar.cmpi .ne v19 c0_i32_7
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg3 v19
  let c0_i32_7 : BitVec 32 := 0#32
  ![arg0.toNat, v20.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg3 v19
  let c0_i32_7 : BitVec 32 := 0#32
  ![arg0.toNat, v20.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S64 : Shape := ⟨1, ![64]⟩
abbrev S128 : Shape := ⟨1, ![128]⟩
abbrev S4x4096x16x64 : Shape := ⟨4, ![4, 4096, 16, 64]⟩
abbrev S4x4096x8x128 : Shape := ⟨4, ![4, 4096, 8, 128]⟩
abbrev S4096 : Shape := ⟨1, ![4096]⟩
abbrev S_ : Shape := ⟨0, ![]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x4096x16x64, .f32⟩
  | .hbm, ⟨9, _⟩ => ⟨S4x4096x16x64, .f32⟩
  | .hbm, ⟨10, _⟩ => ⟨S4x4096x8x128, .f32⟩
  | .hbm, ⟨11, _⟩ => ⟨S4096, .i32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4x16x4096x4096, .f32⟩
  | .hbm, ⟨42, _⟩ => ⟨S_, .f32⟩
  | .hbm, ⟨43, _⟩ => ⟨S4x16x4096x4096, .f32⟩
  | .hbm, ⟨44, _⟩ => ⟨S4x16x4096x4096, .f32⟩
  | .hbm, ⟨45, _⟩ => ⟨S1x4096, .i32⟩
  | .hbm, ⟨46, _⟩ => ⟨S4096x1, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S_, .f32⟩
  | .hbm, ⟨51, _⟩ => ⟨S_, .f32⟩
  | .hbm, ⟨52, _⟩ => ⟨S4x16x4096x4096, .i1⟩
  | .hbm, ⟨53, _⟩ => ⟨S4x16x4096x4096, .f32⟩
  | .hbm, ⟨54, _⟩ => ⟨S4x16x4096x4096, .f32⟩
  | .hbm, ⟨55, _⟩ => ⟨S_, .f32⟩
  | .hbm, ⟨56, _⟩ => ⟨S4x16x4096, .f32⟩
  | .hbm, ⟨57, _⟩ => ⟨S_, .f32⟩
  | .hbm, ⟨58, _⟩ => ⟨S4x16x4096, .f32⟩
  | .hbm, ⟨59, _⟩ => ⟨S4x16x4096, .f32⟩
  | .hbm, ⟨60, _⟩ => ⟨S4x16x4096x1, .f32⟩
  | .hbm, ⟨61, _⟩ => ⟨S4x16x4096x4096, .f32⟩
  | .hbm, ⟨62, _⟩ => ⟨S4x16x4096x4096, .f32⟩
  | .hbm, ⟨63, _⟩ => ⟨S4x16x4096x4096, .f32⟩
  | .hbm, ⟨64, _⟩ => ⟨S_, .f32⟩
  | .hbm, ⟨65, _⟩ => ⟨S4x16x4096, .f32⟩
  | .hbm, ⟨66, _⟩ => ⟨S4x16x4096x1, .f32⟩
  | .hbm, ⟨67, _⟩ => ⟨S4x16x4096x4096, .f32⟩
  | .hbm, ⟨68, _⟩ => ⟨S4x16x4096x4096, .f32⟩
  | .hbm, ⟨69, _⟩ => ⟨S4x8x2x4096x4096, .f32⟩
  | .hbm, ⟨70, _⟩ => ⟨S4x8x1x4096x4096, .f32⟩
  | .hbm, ⟨71, _⟩ => ⟨S4x8x4096x4096, .f32⟩
  | .hbm, ⟨72, _⟩ => ⟨S4x8x1x4096x4096, .f32⟩
  | .hbm, ⟨73, _⟩ => ⟨S4x8x4096x4096, .f32⟩
  | .hbm, ⟨74, _⟩ => ⟨S4x8x4096x4096, .f32⟩
  | .hbm, ⟨75, _⟩ => ⟨S4x8x4096x4096, .f32⟩
  | .hbm, ⟨76, _⟩ => ⟨S4x8x4096x4096, .f32⟩
  | .hbm, ⟨77, _⟩ => ⟨S4x8x128x4096, .f32⟩
  | .hbm, ⟨78, _⟩ => ⟨S4x4096x8x128, .f32⟩
  | .hbm, ⟨79, _⟩ => ⟨S4x4096x8x128, .f32⟩
  | .hbm, ⟨80, _⟩ => ⟨S_, .f32⟩
  | .hbm, ⟨81, _⟩ => ⟨S4x4096x8, .f32⟩
  | .hbm, ⟨82, _⟩ => ⟨S4x4096x8x1, .f32⟩
  | .hbm, ⟨83, _⟩ => ⟨S_, .f32⟩
  | .hbm, ⟨84, _⟩ => ⟨S4x4096x8x1, .f32⟩
  | .hbm, ⟨85, _⟩ => ⟨S4x4096x8x1, .f32⟩
  | .hbm, ⟨86, _⟩ => ⟨S_, .f32⟩
  | .hbm, ⟨87, _⟩ => ⟨S4x4096x8x1, .f32⟩
  | .hbm, ⟨88, _⟩ => ⟨S4x4096x8x1, .f32⟩
  | .hbm, ⟨89, _⟩ => ⟨S4x4096x8x1, .f32⟩
  | .hbm, ⟨90, _⟩ => ⟨S4x4096x8x128, .f32⟩
  | .hbm, ⟨91, _⟩ => ⟨S4x4096x8x128, .f32⟩
  | .hbm, ⟨92, _⟩ => ⟨S1x1x1x128, .f32⟩
  | .hbm, ⟨93, _⟩ => ⟨S4x4096x8x128, .f32⟩
  | .hbm, ⟨94, _⟩ => ⟨S4x4096x8x128, .f32⟩
  | .hbm, ⟨95, _⟩ => ⟨S_, .f32⟩
  | .hbm, ⟨96, _⟩ => ⟨S4x4096x8x128, .f32⟩
  | .hbm, ⟨97, _⟩ => ⟨S4x4096x8x128, .f32⟩
  | .hbm, ⟨98, _⟩ => ⟨S4x4096x1024, .f32⟩
  | .hbm, ⟨99, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_cst_9 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_10 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x128 : Shape := ⟨2, ![1024, 128]⟩
abbrev S_ : Shape := ⟨0, ![]⟩
abbrev S1x128 : Shape := ⟨2, ![1, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 33
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x128, .f32⟩
  | .hbm, ⟨3, _⟩ => ⟨S_, .f32⟩
  | .hbm, ⟨4, _⟩ => ⟨S1x128, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x1024, .f32⟩
  | .hbm, ⟨32, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S1024 : Shape := ⟨1, ![1024]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x128 : Shape := ⟨2, ![16384, 128]⟩
abbrev S4x4096x1x128 : Shape := ⟨4, ![4, 4096, 1, 128]⟩
abbrev S4x4096x1x64 : Shape := ⟨4, ![4, 4096, 1, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x1x32 : Shape := ⟨4, ![4, 4096, 1, 32]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x128, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x128, .f32⟩
  | .hbm, ⟨20, _⟩ => ⟨S4x4096x1x128, .f32⟩
  | .hbm, ⟨21, _⟩ => ⟨S4x4096x1x64, .f32⟩
  | .hbm, ⟨22, _⟩ => ⟨S4096, .i32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S1x4096x1x32, .f32⟩
  | .hbm, ⟨39, _⟩ => ⟨S4096x32, .f32⟩
  | .hbm, ⟨40, _⟩ => ⟨S1x4096x1x32, .f32⟩
  | .hbm, ⟨41, _⟩ => ⟨S4x4096x1x32, .f32⟩
  | .hbm, ⟨42, _⟩ => ⟨S4x4096x1x32, .f32⟩
  | .hbm, ⟨43, _⟩ => ⟨S4x4096x1x32, .f32⟩
  | .hbm, ⟨44, _⟩ => ⟨S4x4096x1x32, .f32⟩
  | .hbm, ⟨45, _⟩ => ⟨S4x4096x1x32, .f32⟩
  | .hbm, ⟨46, _⟩ => ⟨S4x4096x1x32, .f32⟩
  | .hbm, ⟨47, _⟩ => ⟨S4x4096x1x32, .f32⟩
  | .hbm, ⟨48, _⟩ => ⟨S4x4096x1x32, .f32⟩
  | .hbm, ⟨49, _⟩ => ⟨S4x4096x1x32, .f32⟩
  | .hbm, ⟨50, _⟩ => ⟨S4x4096x1x32, .f32⟩
  | .hbm, ⟨51, _⟩ => ⟨S4x4096x1x32, .f32⟩
  | .hbm, ⟨52, _⟩ => ⟨S4x4096x1x32, .f32⟩
  | .hbm, ⟨53, _⟩ => ⟨S4x4096x1x64, .f32⟩
  | .hbm, ⟨54, _⟩ => ⟨S4x4096x1x64, .f32⟩
  | .hbm, ⟨55, _⟩ => ⟨S_, .f32⟩
  | .hbm, ⟨56, _⟩ => ⟨S4x4096x1x64, .f32⟩
  | .hbm, ⟨57, _⟩ => ⟨S4x4096x1x64, .f32⟩
  | .hbm, ⟨58, _⟩ => ⟨S4x4096x1x128, .f32⟩
  | .hbm, ⟨59, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x128 : Shape := ⟨2, ![1024, 128]⟩
abbrev S128 : Shape := ⟨1, ![128]⟩
abbrev S1x128 : Shape := ⟨2, ![1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 33
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S1x128, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x1024, .f32⟩
  | .hbm, ⟨32, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x128 : Shape := ⟨2, ![16384, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x128, .f32⟩
  | .hbm, ⟨21, _⟩ => ⟨S1x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .i1⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x512 : Shape := ⟨2, ![1024, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S16384x512 : Shape := ⟨2, ![16384, 512]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 32
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S4096x32, .f32⟩
  | .hbm, ⟨23, _⟩ => ⟨S4096x64, .f32⟩
  | .hbm, ⟨24, _⟩ => ⟨S1x4096x1x64, .f32⟩
  | .hbm, ⟨25, _⟩ => ⟨S1x4096x2x64, .f32⟩
  | .hbm, ⟨26, _⟩ => ⟨S4096x128, .f32⟩
  | .hbm, ⟨27, _⟩ => ⟨S1x4096x1x64, .f32⟩
  | .hbm, ⟨28, _⟩ => ⟨S1x4096x2x64, .f32⟩
  | .hbm, ⟨29, _⟩ => ⟨S4096x128, .f32⟩
  | .hbm, ⟨30, _⟩ => ⟨S1x1024, .f32⟩
  | .hbm, ⟨31, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S4x4096x8x64 : Shape := ⟨4, ![4, 4096, 8, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x512, .f32⟩
  | .hbm, ⟨20, _⟩ => ⟨S4x4096x8x64, .f32⟩
  | .hbm, ⟨21, _⟩ => ⟨S4096, .i32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S1x4096x1x32, .f32⟩
  | .hbm, ⟨38, _⟩ => ⟨S4096x32, .f32⟩
  | .hbm, ⟨39, _⟩ => ⟨S1x4096x1x32, .f32⟩
  | .hbm, ⟨40, _⟩ => ⟨S4x4096x8x32, .f32⟩
  | .hbm, ⟨41, _⟩ => ⟨S4x4096x8x32, .f32⟩
  | .hbm, ⟨42, _⟩ => ⟨S4x4096x8x32, .f32⟩
  | .hbm, ⟨43, _⟩ => ⟨S4x4096x8x32, .f32⟩
  | .hbm, ⟨44, _⟩ => ⟨S4x4096x8x32, .f32⟩
  | .hbm, ⟨45, _⟩ => ⟨S4x4096x8x32, .f32⟩
  | .hbm, ⟨46, _⟩ => ⟨S4x4096x8x32, .f32⟩
  | .hbm, ⟨47, _⟩ => ⟨S4x4096x8x32, .f32⟩
  | .hbm, ⟨48, _⟩ => ⟨S4x4096x8x32, .f32⟩
  | .hbm, ⟨49, _⟩ => ⟨S4x4096x8x32, .f32⟩
  | .hbm, ⟨50, _⟩ => ⟨S4x4096x8x32, .f32⟩
  | .hbm, ⟨51, _⟩ => ⟨S4x4096x8x32, .f32⟩
  | .hbm, ⟨52, _⟩ => ⟨S4x4096x8x64, .f32⟩
  | .hbm, ⟨53, _⟩ => ⟨S_, .f32⟩
  | .hbm, ⟨54, _⟩ => ⟨S4x4096x8x64, .f32⟩
  | .hbm, ⟨55, _⟩ => ⟨S4x4096x8x64, .f32⟩
  | .hbm, ⟨56, _⟩ => ⟨S16384x512, .f32⟩
  | .hbm, ⟨57, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel8.lean ====
abbrev S4x4096x16 : Shape := ⟨3, ![4, 4096, 16]⟩
abbrev S4x16x4096 : Shape := ⟨3, ![4, 16, 4096]⟩
abbrev S1x16x4096 : Shape := ⟨3, ![1, 16, 4096]⟩
abbrev S16x4096 : Shape := ⟨2, ![16, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x16, .f32⟩
  | .hbm, ⟨1, _⟩ => ⟨S4x16x4096, .f32⟩
  | .hbm, ⟨2, _⟩ => ⟨S4x16x4096, .f32⟩
  | .hbm, ⟨3, _⟩ => ⟨S4x16x4096, .bf16⟩
  | .hbm, ⟨4, _⟩ => ⟨S4x16x4096, .bf16⟩
  | .hbm, ⟨5, _⟩ => ⟨S4x16x4096, .bf16⟩
  | .local _ .vmem, ⟨0, _⟩ => ⟨S1x16x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .bf16⟩
  | .local _ .vmem, ⟨5, _⟩ => ⟨S1x16x4096, .bf16⟩
  | .local _ .vmem, ⟨6, _⟩ => ⟨S1x16x4096, .bf16⟩
  | .local _ .vmem, ⟨7, _⟩ => ⟨S1x16x4096, .bf16⟩
  | .local _ .vmem, ⟨8, _⟩ => ⟨S1x16x4096, .bf16⟩
  | .local _ .vmem, ⟨9, _⟩ => ⟨S1x16x4096, .bf16⟩
  | _, _ => ⟨S4x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel8Ideal.lean ====
variable {F : FTy → Type} [FloatOps F] [Named F]
def κ : String → Option EReal := fun
  | "log2e" => some (((Real.log 2)⁻¹ : ℝ) : EReal)
  | _ => none
-- ==== Reference8Ideal.lean ====
abbrev S4x4096x16 : Shape := ⟨3, ![4, 4096, 16]⟩
abbrev S_ : Shape := ⟨0, ![]⟩
abbrev S4x16x4096 : Shape := ⟨3, ![4, 16, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x16, .f32⟩
  | .hbm, ⟨1, _⟩ => ⟨S_, .f32⟩
  | .hbm, ⟨2, _⟩ => ⟨S_, .f32⟩
  | .hbm, ⟨3, _⟩ => ⟨S4x4096x16, .f32⟩
  | .hbm, ⟨4, _⟩ => ⟨S4x16x4096, .f32⟩
  | .hbm, ⟨5, _⟩ => ⟨S_, .f32⟩
  | .hbm, ⟨6, _⟩ => ⟨S_, .f32⟩
  | .hbm, ⟨7, _⟩ => ⟨S4x16x4096, .f32⟩
  | .hbm, ⟨8, _⟩ => ⟨S4x16x4096, .f32⟩
  | .hbm, ⟨9, _⟩ => ⟨S4x16x4096, .bf16⟩
  | .hbm, ⟨10, _⟩ => ⟨S4x16x4096, .f32⟩
  | .hbm, ⟨11, _⟩ => ⟨S4x16x4096, .f32⟩
  | .hbm, ⟨12, _⟩ => ⟨S4x16x4096, .bf16⟩
  | .hbm, ⟨13, _⟩ => ⟨S4x16x4096, .f32⟩
  | .hbm, ⟨14, _⟩ => ⟨S4x16x4096, .f32⟩
  | .hbm, ⟨15, _⟩ => ⟨S4x16x4096, .bf16⟩
  | _, _ => ⟨S4x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel9.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x128 : Shape := ⟨2, ![1, 128]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x1x128 : Shape := ⟨4, ![1, 32, 1, 128]⟩
abbrev S32x32x1x128 : Shape := ⟨4, ![32, 32, 1, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 42
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S1x128, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S1x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x64, .f32⟩
  | .hbm, ⟨26, _⟩ => ⟨S32x32, .f32⟩
  | .hbm, ⟨27, _⟩ => ⟨S32x64, .f32⟩
  | .hbm, ⟨28, _⟩ => ⟨S1x32x1x64, .f32⟩
  | .hbm, ⟨29, _⟩ => ⟨S1x32x2x64, .f32⟩
  | .hbm, ⟨30, _⟩ => ⟨S32x128, .f32⟩
  | .hbm, ⟨31, _⟩ => ⟨S1x32x1x64, .f32⟩
  | .hbm, ⟨32, _⟩ => ⟨S1x32x2x64, .f32⟩
  | .hbm, ⟨33, _⟩ => ⟨S32x128, .f32⟩
  | .hbm, ⟨34, _⟩ => ⟨S1x32x1x128, .f32⟩
  | .hbm, ⟨35, _⟩ => ⟨S32x32x1x128, .f32⟩
  | .hbm, ⟨36, _⟩ => ⟨S1024x128, .f32⟩
  | .hbm, ⟨37, _⟩ => ⟨S1x32x1x128, .f32⟩
  | .hbm, ⟨38, _⟩ => ⟨S32x32x1x128, .f32⟩
  | .hbm, ⟨39, _⟩ => ⟨S1024x128, .f32⟩
  | .hbm, ⟨40, _⟩ => ⟨S1x1024, .f32⟩
  | .hbm, ⟨41, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x128, .f32⟩
  | .hbm, ⟨21, _⟩ => ⟨S1x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1024x128, .i1⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel11.lean ====
abbrev S1024x1024 : Shape := ⟨2, ![1024, 1024]⟩
abbrev S1024 : Shape := ⟨1, ![1024]⟩
abbrev S1024x128 : Shape := ⟨2, ![1024, 128]⟩
abbrev S_ : Shape := ⟨0, ![]⟩
abbrev S1x128 : Shape := ⟨2, ![1, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x1x128 : Shape := ⟨4, ![1, 32, 1, 128]⟩
abbrev S32x32x1x128 : Shape := ⟨4, ![32, 32, 1, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 42
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x128, .f32⟩
  | .hbm, ⟨3, _⟩ => ⟨S_, .f32⟩
  | .hbm, ⟨4, _⟩ => ⟨S1x128, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S1x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x64, .f32⟩
  | .hbm, ⟨26, _⟩ => ⟨S32x32, .f32⟩
  | .hbm, ⟨27, _⟩ => ⟨S32x64, .f32⟩
  | .hbm, ⟨28, _⟩ => ⟨S1x32x1x64, .f32⟩
  | .hbm, ⟨29, _⟩ => ⟨S1x32x2x64, .f32⟩
  | .hbm, ⟨30, _⟩ => ⟨S32x128, .f32⟩
  | .hbm, ⟨31, _⟩ => ⟨S1x32x1x64, .f32⟩
  | .hbm, ⟨32, _⟩ => ⟨S1x32x2x64, .f32⟩
  | .hbm, ⟨33, _⟩ => ⟨S32x128, .f32⟩
  | .hbm, ⟨34, _⟩ => ⟨S1x32x1x128, .f32⟩
  | .hbm, ⟨35, _⟩ => ⟨S32x32x1x128, .f32⟩
  | .hbm, ⟨36, _⟩ => ⟨S1024x128, .f32⟩
  | .hbm, ⟨37, _⟩ => ⟨S1x32x1x128, .f32⟩
  | .hbm, ⟨38, _⟩ => ⟨S32x32x1x128, .f32⟩
  | .hbm, ⟨39, _⟩ => ⟨S1024x128, .f32⟩
  | .hbm, ⟨40, _⟩ => ⟨S1x1024, .f32⟩
  | .hbm, ⟨41, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1024x1024 : Shape := ⟨2, ![1024, 1024]⟩
abbrev S1024 : Shape := ⟨1, ![1024]⟩
abbrev S1024x128 : Shape := ⟨2, ![1024, 128]⟩
abbrev S_ : Shape := ⟨0, ![]⟩
abbrev S1024x1 : Shape := ⟨2, ![1024, 1]⟩
abbrev S1x1024 : Shape := ⟨2, ![1, 1024]⟩
abbrev S32x32x1x128 : Shape := ⟨4, ![32, 32, 1, 128]⟩
abbrev S32x32x1x64 : Shape := ⟨4, ![32, 32, 1, 64]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S32x32x1x32 : Shape := ⟨4, ![32, 32, 1, 32]⟩

abbrev nBuf : Space → Nat
  | .hbm => 63
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x128, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x128, .f32⟩
  | .hbm, ⟨20, _⟩ => ⟨S32x32x1x128, .f32⟩
  | .hbm, ⟨21, _⟩ => ⟨S32x32x1x64, .f32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S1x32, .f32⟩
  | .hbm, ⟨37, _⟩ => ⟨S32x32, .f32⟩
  | .hbm, ⟨38, _⟩ => ⟨S32x32, .f32⟩
  | .hbm, ⟨39, _⟩ => ⟨S32x32, .f32⟩
  | .hbm, ⟨40, _⟩ => ⟨S32x32, .f32⟩
  | .hbm, ⟨41, _⟩ => ⟨S1x32x1x32, .f32⟩
  | .hbm, ⟨42, _⟩ => ⟨S32x32, .f32⟩
  | .hbm, ⟨43, _⟩ => ⟨S1x32x1x32, .f32⟩
  | .hbm, ⟨44, _⟩ => ⟨S32x32x1x32, .f32⟩
  | .hbm, ⟨45, _⟩ => ⟨S32x32x1x32, .f32⟩
  | .hbm, ⟨46, _⟩ => ⟨S32x32x1x32, .f32⟩
  | .hbm, ⟨47, _⟩ => ⟨S32x32x1x32, .f32⟩
  | .hbm, ⟨48, _⟩ => ⟨S32x32x1x32, .f32⟩
  | .hbm, ⟨49, _⟩ => ⟨S32x32x1x32, .f32⟩
  | .hbm, ⟨50, _⟩ => ⟨S32x32x1x32, .f32⟩
  | .hbm, ⟨51, _⟩ => ⟨S32x32x1x32, .f32⟩
  | .hbm, ⟨52, _⟩ => ⟨S32x32x1x32, .f32⟩
  | .hbm, ⟨53, _⟩ => ⟨S32x32x1x32, .f32⟩
  | .hbm, ⟨54, _⟩ => ⟨S32x32x1x32, .f32⟩
  | .hbm, ⟨55, _⟩ => ⟨S32x32x1x32, .f32⟩
  | .hbm, ⟨56, _⟩ => ⟨S32x32x1x64, .f32⟩
  | .hbm, ⟨57, _⟩ => ⟨S32x32x1x64, .f32⟩
  | .hbm, ⟨58, _⟩ => ⟨S_, .f32⟩
  | .hbm, ⟨59, _⟩ => ⟨S32x32x1x64, .f32⟩
  | .hbm, ⟨60, _⟩ => ⟨S32x32x1x64, .f32⟩
  | .hbm, ⟨61, _⟩ => ⟨S32x32x1x128, .f32⟩
  | .hbm, ⟨62, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.Feed.lean ====
/- The feed-forward call: what a grid point leaves in its two scratches and in the result's block, and what the whole call
   computes, row by row. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Feed

open Cert.Kernel2Ideal Cert.Kernel2Ideal.Gen Idealize.ShloMosaic Idealize.ShloMosaic.TcCoe

/-- A row over the root of its mean square, times the gains. -/
def unitRow (x g : Fin 1024 → EReal) (k : Fin 1024) : EReal :=
  x k * Ideal.rsqrt (Ideal.div (∑ j, x j * x j) (Ideal.ofBits .f32 0x44800000#32) + Ideal.ofBits .f32 0x358637BD#32) * g k

/-- The square of what is positive in a number. -/
def sqPos (u : EReal) : EReal := max u 0 * max u 0

/-! ## The values stored -/

theorem pay1_apply (x : Vec Ideal S1024x1024 .f32) (g : Vec Ideal S1x1024 .f32) (r k : Fin 1024) :
    k0_pay1 x g (ix2 r k) = unitRow (fun j => x (ix2 r j)) (fun j => g (ix2 (0 : Fin 1) j)) k := by
  pointwise [k0_pay1]
  rfl

theorem pay2_apply (r e : Fin 1024) : k0_pay2 (F := Ideal) (ix2 r e) = 0 := by
  pointwise [k0_pay2]

theorem pay3_apply (n : Vec Ideal S1024x1024 .bf16) (u : Vec Ideal S1024x512 .bf16) (a : Vec Ideal S1024x1024 .f32) (d : Vec Ideal S512x1024 .bf16) (r e : Fin 1024) :
    k0_pay3 n u a d (ix2 r e) = a (ix2 r e) + ∑ f : Fin 512, sqPos (∑ k : Fin 1024, n (ix2 r k) * u (ix2 k f)) * d (ix2 f e) := by
  pointwise [k0_pay3, sqPos]

theorem pay4_apply (x a : Vec Ideal S1024x1024 .f32) (r e : Fin 1024) : k0_pay4 x a (ix2 r e) = x (ix2 r e) + a (ix2 r e) := by
  pointwise [k0_pay4]

/-! ## What a grid point leaves -/

variable (m : (ℓ : Loc nD τ sig) → Buf (Elt Ideal) ℓ) (c : Dev nD)

/-- What a grid point leaves: the rows normed, and the sum over the hidden columns met. -/
abbrev stN (n : ℕ) (h : n < cfg0.N) : Vec Ideal S1024x1024 .bf16 := (outsAt0 m c n h).2.1
abbrev stA (n : ℕ) (h : n < cfg0.N) : Vec Ideal S1024x1024 .f32 := (outsAt0 m c n h).2.2

theorem pred_lt (t : Fin cfg0.N) : t.val - 1 < cfg0.N := Nat.lt_of_le_of_lt (Nat.sub_le _ _) t.isLt

variable (t : Fin cfg0.N)

theorem started (h0 : t.val % 8 = 0) : stN m c t.val t.isLt = k0_pay1 (iblk m c 0 t) (iblk m c 1 t)
    ∧ stA m c t.val t.isLt = k0_pay3 (k0_pay1 (iblk m c 0 t) (iblk m c 1 t)) (iblk m c 2 t) (k0_pay2 (F := Ideal)) (iblk m c 3 t) := by
  rw [stN, stA, outsAt0_A m c t h0 (by omega)]
  constructor
  · frame_out
  · frame_out

theorem carried (h0 : ¬t.val % 8 = 0) : stN m c t.val t.isLt = stN m c (t.val - 1) (pred_lt t)
    ∧ stA m c t.val t.isLt = k0_pay3 (stN m c (t.val - 1) (pred_lt t)) (iblk m c 2 t) (stA m c (t.val - 1) (pred_lt t)) (iblk m c 3 t) := by
  by_cases h7 : t.val % 8 = 7
  · rw [stN, stA, outsAt0_C m c t h0 h7]
    constructor
    · exact rfl
    · frame_out
      simp only [read_unread_whole]
  · rw [stN, stA, outsAt0_B m c t h0 h7]
    constructor
    · exact rfl
    · frame_out
      simp only [read_unread_whole]

theorem ended (h7 : t.val % 8 = 7) : (outsAt0 m c t.val t.isLt).1 = k0_pay4 (iblk m c 0 t) (stA m c t.val t.isLt) := by
  rw [(carried m c t (by omega)).2, outsAt0_C m c t (by omega) h7]
  frame_out
  simp only [read_unread_whole]

/-! ## What it reads -/

theorem index_x : ∀ t : Fin cfg0.N, win0_0.index t 0 = t.val / 8 ∧ win0_0.index t 1 = 0 := by decide +kernel
theorem index_g : ∀ t : Fin cfg0.N, win0_1.index t 0 = 0 ∧ win0_1.index t 1 = 0 := by decide +kernel
theorem index_u : ∀ t : Fin cfg0.N, win0_2.index t 0 = 0 ∧ win0_2.index t 1 = t.val % 8 := by decide +kernel
theorem index_d : ∀ t : Fin cfg0.N, win0_3.index t 0 = t.val % 8 ∧ win0_3.index t 1 = 0 := by decide +kernel
theorem index_o : ∀ t : Fin cfg0.N, win0_4.index t 0 = t.val / 8 ∧ win0_4.index t 1 = 0 := by decide +kernel

/-- The arguments: the rows, the norm's gains, the weights up and down. -/
abbrev argX : FVec Ideal S16384x1024 .f32 := m ((c : Thread nD τ).loc main_arg0)
abbrev argG : FVec Ideal S1024 .f32 := m ((c : Thread nD τ).loc main_arg1)
abbrev argU : FVec Ideal S1024x4096 .f32 := m ((c : Thread nD τ).loc main_arg2)
abbrev argD : FVec Ideal S4096x1024 .f32 := m ((c : Thread nD τ).loc main_arg3)

theorem host_x : (V m c main_arg0 : FVec Ideal S16384x1024 .f32) = argX m c := V_main_arg0 m c

theorem host_g (k : Fin 1024) : (V m c main_v2 : FVec Ideal S1x1024 .f32) (ix2 (0 : Fin 1) k) = argG m c (ix1 k) := by
  have e : (V m c main_v2 : FVec Ideal S1x1024 .f32) = shapeCast S1x1024 (argG m c) shapeCasts_S1024_S1x1024 := by
    show StableHlo.after hostOps0 _ _ = _
    after_results
    try rfl
  rw [e]
  pointwise

theorem host_u : (V m c main_v0 : FVec Ideal S1024x4096 .bf16) = argU m c := by
  have e : (V m c main_v0 : FVec Ideal S1024x4096 .bf16) = truncf .bf16 (argU m c) bitsLt_bf16_f32 := by
    show StableHlo.after hostOps0 _ _ = _
    after_results
    try rfl
  rw [e]; rfl

theorem host_d : (V m c main_v1 : FVec Ideal S4096x1024 .bf16) = argD m c := by
  have e : (V m c main_v1 : FVec Ideal S4096x1024 .bf16) = truncf .bf16 (argD m c) bitsLt_bf16_f32 := by
    show StableHlo.after hostOps0 _ _ = _
    after_results
    try rfl
  rw [e]; rfl

theorem tile_lt (n : ℕ) (h : n < cfg0.N) : n / 8 < 16 := by have h : n < 128 := h; omega

/-- The row of the array that is row `r` of the tile of point `n`. -/
def rowAt (n : ℕ) (h : n < cfg0.N) (r : Fin 1024) : Fin 16384 := ⟨1024 * (n / 8) + r.val, by have := tile_lt n h; omega⟩

theorem read_x (r k : Fin 1024) : iblk m c 0 t (ix2 r k) = argX m c (ix2 (rowAt t.val t.isLt r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_u (k : Fin 1024) (f : Fin 512) : iblk m c 2 t (ix2 k f) = argU m c (ix2 k (⟨512 * (t.val % 8) + f.val, by omega⟩ : Fin 4096)) := by
  rw [← host_u]
  obtain ⟨i0, i1⟩ := index_u t
  blk_ext [iblk, i0, i1]

theorem read_d (f : Fin 512) (e : Fin 1024) : iblk m c 3 t (ix2 f e) = argD m c (ix2 (⟨512 * (t.val % 8) + f.val, by omega⟩ : Fin 4096) e) := by
  rw [← host_d]
  obtain ⟨i0, i1⟩ := index_d t
  blk_ext [iblk, i0, i1]

/-! ## The rows after each grid point -/

/-- A row of the input, normed. -/
def normedAt (R : Fin 16384) (k : Fin 1024) : EReal := unitRow (fun j => argX m c (ix2 R j)) (fun j => argG m c (ix1 j)) k

/-- What one hidden column adds to one result. -/
def term (R : Fin 16384) (e : Fin 1024) (f : Fin 4096) : EReal := sqPos (∑ k : Fin 1024, normedAt m c R k * argU m c (ix2 k f)) * argD m c (ix2 f e)

/-- The same at a natural number, zero past the last column. -/
def termN (R : Fin 16384) (e : Fin 1024) (f : ℕ) : EReal := if h : f < 4096 then term m c R e ⟨f, h⟩ else 0

theorem termN_all (R : Fin 16384) (e : Fin 1024) : ∑ f ∈ Finset.range 4096, termN m c R e f = ∑ f : Fin 4096, term m c R e f := by
  rw [← Fin.sum_univ_eq_sum_range]
  exact Finset.sum_congr rfl fun f _ => dif_pos f.isLt

/-- One point's share of the sum. -/
theorem share (n : Vec Ideal S1024x1024 .bf16) (a : Vec Ideal S1024x1024 .f32) (r e : Fin 1024)
    (hn : ∀ k, n (ix2 r k) = normedAt m c (rowAt t.val t.isLt r) k)
    (ha : a (ix2 r e) = ∑ f ∈ Finset.range (512 * (t.val % 8)), termN m c (rowAt t.val t.isLt r) e f) :
    k0_pay3 n (iblk m c 2 t) a (iblk m c 3 t) (ix2 r e) = ∑ f ∈ Finset.range (512 * (t.val % 8 + 1)), termN m c (rowAt t.val t.isLt r) e f := by
  rw [pay3_apply, ha, show 512 * (t.val % 8 + 1) = 512 * (t.val % 8) + 512 by omega, Finset.sum_range_add,
    ← Fin.sum_univ_eq_sum_range (fun x => termN m c (rowAt t.val t.isLt r) e (512 * (t.val % 8) + x)) 512]
  refine congrArg₂ (· + ·) rfl (Finset.sum_congr rfl fun f _ => ?_)
  rw [termN, dif_pos (by omega : 512 * (t.val % 8) + f.val < 4096), term, read_d]
  simp only [hn, read_u]

theorem norm_row (r k : Fin 1024) : k0_pay1 (iblk m c 0 t) (iblk m c 1 t) (ix2 r k) = normedAt m c (rowAt t.val t.isLt r) k := by
  rw [pay1_apply]
  simp only [read_x, read_g]
  rfl

theorem invariant : ∀ (n : ℕ) (hn : n < cfg0.N) (r : Fin 1024), (∀ k, stN m c n hn (ix2 r k) = normedAt m c (rowAt n hn r) k)
    ∧ ∀ e, stA m c n hn (ix2 r e) = ∑ f ∈ Finset.range (512 * (n % 8 + 1)), termN m c (rowAt n hn r) e f := by
  have first : ∀ (t : Fin cfg0.N) (h0 : t.val % 8 = 0) (r : Fin 1024), (∀ k, stN m c t.val t.isLt (ix2 r k) = normedAt m c (rowAt t.val t.isLt r) k)
      ∧ ∀ e, stA m c t.val t.isLt (ix2 r e) = ∑ f ∈ Finset.range (512 * (t.val % 8 + 1)), termN m c (rowAt t.val t.isLt r) e f := by
    intro t h0 r
    obtain ⟨hN, hA⟩ := started m c t h0
    rw [hN, hA]
    refine ⟨norm_row m c t r, fun e => share m c t _ _ r e (norm_row m c t r) ?_⟩
    rw [pay2_apply, h0]
    rfl
  intro n
  induction n with
  | zero => exact fun hn => first ⟨0, hn⟩ rfl
  | succ n ih =>
    intro hn r
    by_cases h0 : (n + 1) % 8 = 0
    · exact first ⟨n + 1, hn⟩ h0 r
    · obtain ⟨iN, iA⟩ := ih (Nat.lt_of_succ_lt hn) r
      have hr : rowAt n (Nat.lt_of_succ_lt hn) r = rowAt (n + 1) hn r := Fin.ext (by show 1024 * (n / 8) + r.val = 1024 * ((n + 1) / 8) + r.val; omega)
      rw [hr] at iN iA
      rw [show n % 8 + 1 = (n + 1) % 8 by omega] at iA
      obtain ⟨hN, hA⟩ := carried m c ⟨n + 1, hn⟩ h0
      have hN' : stN m c (n + 1) hn = stN m c n (Nat.lt_of_succ_lt hn) := hN
      have hA' : stA m c (n + 1) hn = k0_pay3 (stN m c n (Nat.lt_of_succ_lt hn)) (iblk m c 2 ⟨n + 1, hn⟩) (stA m c n (Nat.lt_of_succ_lt hn)) (iblk m c 3 ⟨n + 1, hn⟩) := hA
      rw [hN', hA']
      exact ⟨iN, fun e => share m c ⟨n + 1, hn⟩ _ _ r e iN (iA e)⟩

/-! ## The result -/

/-- The feed-forward part's result: the row, and the sum over the hidden columns. -/
def feed : FVec Ideal S16384x1024 .f32 := fun i => argX m c i + ∑ f : Fin 4096, term m c (i 0) (i 1) f

theorem result_array : (dats m 0 c).arrAt 4 cfg0.N = feed m c := by
  refine (dats m 0 c).arrAt_eq_of_covers 4 (feed m c) (by decide +kernel) fun t hf y => ?_
  have h7 : t.val % 8 = 7 := (flush0_4 t).mp hf
  obtain ⟨i0, i1⟩ := index_o t
  blk_simp
  rw [after0_4]
  obtain ⟨r, e, rfl⟩ : ∃ (r e : Fin 1024), y = ix2 r e := ⟨y 0, y 1, by funext a; fin_cases a <;> rfl⟩
  refine (congrFun (ended m c t h7) (ix2 r e)).trans ?_
  rw [pay4_apply, read_x, (invariant m c t.val t.isLt r).2 e, h7, termN_all]
  have he : ((cfg0.win 4).blk t).view.emb (ix2 r e) = ix2 (rowAt t.val t.isLt r) e := by
    blk_ext [rowAt, i0, i1]
  exact (congrArg (feed m c) he).symm

end Cert.Kernel2Ideal.Feed
-- ==== Proof.FeedReference.lean ====
/- The feed-forward part as the reference writes it, read at an index: the same row and the same sum. -/
module

public import proofs.«01_k».proof.Proof.Feed
public import proofs.«01_k».proof.Proof.Gen.Reference2Ideal.Run

@[expose] public section

set_option maxRecDepth 16384

noncomputable section

namespace Cert.Reference2Ideal.Feed

open Cert.Reference2Ideal Cert.Reference2Ideal.Gen Idealize.ShloMosaic Idealize.ShloMosaic.TcCoe Idealize.SL.Sem
open Cert.Kernel2Ideal.Feed (unitRow sqPos)

/-- The reference's result, from its arguments. -/
def value (x : FVec Ideal S16384x1024 .f32) (g : FVec Ideal S1024 .f32) (u : FVec Ideal S1024x4096 .f32) (d : FVec Ideal S4096x1024 .f32) : FVec Ideal S16384x1024 .f32 := fun i =>
  x i + ∑ f : Fin 4096, sqPos (∑ k : Fin 1024, unitRow (fun j => x (ix2 (i 0) j)) (fun j => g (ix1 j)) k * u (ix2 k f)) * d (ix2 f (i 1))

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = value (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨((h c).1).trans ?_, (h c).2⟩) (Cert.Reference2Ideal.Value.run m ρ)
  generalize m ((c.tc : Thread nD τ).loc main_arg0) = x
  generalize m ((c.tc : Thread nD τ).loc main_arg1) = g
  generalize m ((c.tc : Thread nD τ).loc main_arg2) = u
  generalize m ((c.tc : Thread nD τ).loc main_arg3) = d
  refine funext fun (i : S16384x1024.Idx) => ?_
  obtain ⟨R, e, rfl⟩ : ∃ (R : Fin 16384) (e : Fin 1024), i = ix2 R e := ⟨i 0, i 1, by funext a; fin_cases a <;> rfl⟩
  pointwise [value, sqPos, unitRow]

end Cert.Reference2Ideal.Feed
-- ==== Proof.Output.lean ====
/- The output product of a layer with the residual: what the call leaves in its result, and the reference's sum read at an index. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Output

open Idealize.ShloMosaic Idealize.ShloMosaic.TcCoe Idealize.SL.Sem

/-- A row of the residual plus the row of the attention times the weights. -/
def value (a : FVec Ideal ⟨2, ![16384, 1024]⟩ .f32) (w : FVec Ideal ⟨2, ![1024, 1024]⟩ .f32) (x : FVec Ideal ⟨2, ![16384, 1024]⟩ .f32) : FVec Ideal ⟨2, ![16384, 1024]⟩ .f32 := fun i =>
  x i + ∑ k : Fin 1024, a (ix2 (i 0) k) * w (ix2 k (i 1))

namespace Call

open Cert.Kernel3Ideal Cert.Kernel3Ideal.Gen

theorem pay1_apply (x : Vec Ideal S512x1024 .f32) (a : Vec Ideal S512x1024 .bf16) (w : Vec Ideal S1024x1024 .bf16) (r e : Fin _) :
    k0_pay1 x a w (ix2 r e) = x (ix2 r e) + ∑ k : Fin 1024, a (ix2 r k) * w (ix2 k e) := by
  pointwise [k0_pay1]

variable (m : (ℓ : Loc nD τ sig) → Buf (Elt Ideal) ℓ) (c : Dev nD)

theorem index_a : ∀ t : Fin cfg0.N, win0_0.index t 0 = t.val ∧ win0_0.index t 1 = 0 := by decide +kernel
theorem index_w : ∀ t : Fin cfg0.N, win0_1.index t 0 = 0 ∧ win0_1.index t 1 = 0 := by decide +kernel
theorem index_x : ∀ t : Fin cfg0.N, win0_2.index t 0 = t.val ∧ win0_2.index t 1 = 0 := by decide +kernel
theorem index_o : ∀ t : Fin cfg0.N, win0_3.index t 0 = t.val ∧ win0_3.index t 1 = 0 := by decide +kernel

/-- The arguments: the attention's rows, the weights, the residual. -/
abbrev argA : FVec Ideal S16384x1024 .f32 := m ((c : Thread nD τ).loc main_arg0)
abbrev argW : FVec Ideal S1024x1024 .f32 := m ((c : Thread nD τ).loc main_arg1)
abbrev argX : FVec Ideal S16384x1024 .f32 := m ((c : Thread nD τ).loc main_arg2)

theorem host_a : (V m c main_v0 : FVec Ideal S16384x1024 .bf16) = argA m c := by
  have e : (V m c main_v0 : FVec Ideal S16384x1024 .bf16) = truncf .bf16 (argA m c) bitsLt_bf16_f32 := by
    show StableHlo.after hostOps0 _ _ = _
    after_results
    try rfl
  rw [e]; rfl

theorem host_w : (V m c main_v1 : FVec Ideal S1024x1024 .bf16) = argW m c := by
  have e : (V m c main_v1 : FVec Ideal S1024x1024 .bf16) = truncf .bf16 (argW m c) bitsLt_bf16_f32 := by
    show StableHlo.after hostOps0 _ _ = _
    after_results
    try rfl
  rw [e]; rfl

theorem host_x : (V m c main_arg2 : FVec Ideal S16384x1024 .f32) = argX m c := V_main_arg2 m c

variable (t : Fin cfg0.N)

/-- The row of the array that is row `r` of the block of a point. -/
def rowAt (r : Fin 512) : Fin 16384 := ⟨512 * t.val + r.val, by have h : t.val < 32 := t.isLt; omega⟩

theorem read_a (r : Fin 512) (k : Fin 1024) : iblk m c 0 t (ix2 r k) = argA m c (ix2 (rowAt t r) k) := by
  rw [← host_a]
  obtain ⟨i0, i1⟩ := index_a t
  blk_ext [iblk, rowAt, i0, i1]

theorem read_w (k e : Fin 1024) : iblk m c 1 t (ix2 k e) = argW m c (ix2 k e) := by
  rw [← host_w]
  obtain ⟨i0, i1⟩ := index_w t
  blk_ext [iblk, i0, i1]

theorem read_x (r : Fin 512) (e : Fin 1024) : iblk m c 2 t (ix2 r e) = argX m c (ix2 (rowAt t r) e) := by
  rw [← host_x]
  obtain ⟨i0, i1⟩ := index_x t
  blk_ext [iblk, rowAt, i0, i1]

theorem stored (t : Fin cfg0.N) : out0_3 (iblk m c 0 t) (iblk m c 1 t) (iblk m c 2 t) = k0_pay1 (iblk m c 2 t) (iblk m c 0 t) (iblk m c 1 t) := by
  frame_out

theorem result_array : (dats m 0 c).arrAt 3 cfg0.N = value (argA m c) (argW m c) (argX m c) := by
  refine (dats m 0 c).arrAt_eq_of_covers 3 (value (argA m c) (argW m c) (argX m c)) (by decide +kernel) fun t hf y => ?_
  obtain ⟨i0, i1⟩ := index_o t
  blk_simp
  rw [after0_3]
  obtain ⟨r, e, rfl⟩ : ∃ (r : Fin 512) (e : Fin 1024), y = ix2 r e := ⟨y 0, y 1, by funext a; fin_cases a <;> rfl⟩
  refine (congrFun (stored m c t) (ix2 r e)).trans ?_
  rw [pay1_apply]
  simp only [read_a, read_w, read_x]
  have he : ((cfg0.win 3).blk t).view.emb (ix2 r e) = ix2 (rowAt t r) e := by
    blk_ext [rowAt, i0, i1]
  exact (congrArg (value (argA m c) (argW m c) (argX m c)) he).symm

end Call

open Cert.Reference3Ideal Cert.Reference3Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨((h c).1).trans ?_, (h c).2⟩) (Cert.Reference3Ideal.Value.run m ρ)
  generalize m ((c.tc : Thread nD τ).loc main_arg0) = a
  generalize m ((c.tc : Thread nD τ).loc main_arg1) = w
  generalize m ((c.tc : Thread nD τ).loc main_arg2) = x
  refine funext fun (i : S16384x1024.Idx) => ?_
  obtain ⟨R, e, rfl⟩ : ∃ (R : Fin 16384) (e : Fin 1024), i = ix2 R e := ⟨i 0, i 1, by funext a; fin_cases a <;> rfl⟩
  pointwise [value]

end Cert.Output
-- ==== Proof.Norm.lean ====
/- The last norm of the rows: what the call leaves in its result, and the reference's norm read at an index. -/
module

public import proofs.«01_k».proof.Proof.Feed
public import proofs.«01_k».proof.Proof.Gen.Kernel4Ideal.Value
public import proofs.«01_k».proof.Proof.Gen.Reference4Ideal.Run

@[expose] public section

set_option maxRecDepth 16384

noncomputable section

namespace Cert.Norm

open Idealize.ShloMosaic Idealize.ShloMosaic.TcCoe Idealize.SL.Sem
open Cert.Kernel2Ideal.Feed (unitRow)

/-- Every row normed, times the gains. -/
def value (x : FVec Ideal ⟨2, ![16384, 1024]⟩ .f32) (g : FVec Ideal ⟨1, ![1024]⟩ .f32) : FVec Ideal ⟨2, ![16384, 1024]⟩ .f32 := fun i =>
  unitRow (fun j => x (ix2 (i 0) j)) (fun j => g (ix1 j)) (i 1)

namespace Call

open Cert.Kernel4Ideal Cert.Kernel4Ideal.Gen

theorem pay1_apply (x : Vec Ideal S512x1024 .f32) (g : Vec Ideal S1x1024 .f32) (r : Fin 512) (k : Fin 1024) :
    k0_pay1 x g (ix2 r k) = unitRow (fun j => x (ix2 r j)) (fun j => g (ix2 (0 : Fin 1) j)) k := by
  pointwise [k0_pay1]
  rfl

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_o : ∀ t : Fin cfg0.N, win0_2.index t 0 = t.val ∧ win0_2.index t 1 = 0 := by decide +kernel

/-- The arguments: the rows and the gains. -/
abbrev argX : FVec Ideal S16384x1024 .f32 := m ((c : Thread nD τ).loc main_arg0)
abbrev argG : FVec Ideal S1024 .f32 := m ((c : Thread nD τ).loc main_arg1)

theorem host_x : (V m c main_arg0 : FVec Ideal S16384x1024 .f32) = argX m c := V_main_arg0 m c

theorem host_g (k : Fin 1024) : (V m c main_v0 : FVec Ideal S1x1024 .f32) (ix2 (0 : Fin 1) k) = argG m c (ix1 k) := by
  have e : (V m c main_v0 : FVec Ideal S1x1024 .f32) = shapeCast S1x1024 (argG m c) shapeCasts_S1024_S1x1024 := by
    show StableHlo.after hostOps0 _ _ = _
    after_results
    try rfl
  rw [e]
  pointwise

variable (t : Fin cfg0.N)

/-- The row of the array that is row `r` of the block of a point. -/
def rowAt (r : Fin 512) : Fin 16384 := ⟨512 * t.val + r.val, by have h : t.val < 32 := t.isLt; omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem stored : out0_2 (iblk m c 0 t) (iblk m c 1 t) = k0_pay1 (iblk m c 0 t) (iblk m c 1 t) := by
  frame_out

theorem result_array : (dats m 0 c).arrAt 2 cfg0.N = value (argX m c) (argG m c) := by
  refine (dats m 0 c).arrAt_eq_of_covers 2 (value (argX m c) (argG m c)) (by decide +kernel) fun t hf y => ?_
  obtain ⟨i0, i1⟩ := index_o t
  blk_simp
  rw [after0_2]
  obtain ⟨r, e, rfl⟩ : ∃ (r : Fin 512) (e : Fin 1024), y = ix2 r e := ⟨y 0, y 1, by funext a; fin_cases a <;> rfl⟩
  refine (congrFun (stored m c t) (ix2 r e)).trans ?_
  rw [pay1_apply]
  simp only [read_x, read_g]
  have he : ((cfg0.win 2).blk t).view.emb (ix2 r e) = ix2 (rowAt t r) e := by
    blk_ext [rowAt, i0, i1]
  exact (congrArg (value (argX m c) (argG m c)) he).symm

end Call

open Cert.Reference4Ideal Cert.Reference4Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨((h c).1).trans ?_, (h c).2⟩) (Cert.Reference4Ideal.Value.run m ρ)
  generalize m ((c.tc : Thread nD τ).loc main_arg0) = x
  generalize m ((c.tc : Thread nD τ).loc main_arg1) = g
  refine funext fun (i : S16384x1024.Idx) => ?_
  obtain ⟨R, e, rfl⟩ : ∃ (R : Fin 16384) (e : Fin 1024), i = ix2 R e := ⟨i 0, i 1, by funext a; fin_cases a <;> rfl⟩
  pointwise [value, unitRow]

end Cert.Norm
-- ==== Proof.Index.lean ====
/- The keys and the head weights of the indexer: the norm of the rows times the weights, the first half of the lanes rotated by
   the angle of the row's position, the other half scaled; what the call leaves in its result, and the reference read at an index. -/
module

public import proofs.«01_k».proof.Proof.Feed
public import proofs.«01_k».proof.Proof.Gen.Kernel5Ideal.Value
public import proofs.«01_k».proof.Proof.Gen.Reference5Ideal.Run

@[expose] public section

set_option maxRecDepth 16384

noncomputable section

namespace Cert.Index

open Idealize.ShloMosaic Idealize.ShloMosaic.TcCoe Idealize.SL.Sem
open Cert.Kernel2Ideal.Feed (unitRow)

/-- The angle of a position at a frequency: position · 10000 ^ (−f/32). -/
def angle (p f : ℕ) : EReal :=
  FloatOps.sitofp (F := Ideal) .f32 (BitVec.ofNat 32 p) * Ideal.pow (Ideal.ofBits .f32 0x461C4000#32) (Ideal.div (-FloatOps.sitofp (F := Ideal) .f32 (BitVec.ofNat 32 f)) (Ideal.ofBits .f32 0x42000000#32))

/-- A row of 64 lanes rotated, each lane of the first half with its partner in the second. -/
def rotated (p : ℕ) (z : Fin 128 → EReal) (l : Fin 128) (h : l.val < 64) : EReal :=
  if h' : l.val < 32 then z l * Ideal.cos (angle p l.val) - z ⟨l.val + 32, by omega⟩ * Ideal.sin (angle p l.val)
  else z l * Ideal.cos (angle p (l.val - 32)) + z ⟨l.val - 32, by omega⟩ * Ideal.sin (angle p (l.val - 32))

/-- The lanes of a row: the first half rotated, the second scaled. -/
def lanes (p : ℕ) (z : Fin 128 → EReal) (l : Fin 128) : EReal :=
  if h : l.val < 64 then rotated p z l h else z l * Ideal.ofBits .f32 0x3EB504F3#32

/-- The normed rows times the weights, the lanes of each as `lanes` says for its position. -/
def value (x : FVec Ideal ⟨2, ![16384, 1024]⟩ .f32) (g : FVec Ideal ⟨1, ![1024]⟩ .f32) (w : FVec Ideal ⟨2, ![1024, 128]⟩ .f32) : FVec Ideal ⟨2, ![16384, 128]⟩ .f32 := fun i =>
  lanes ((i 0).val % 4096) (fun l => ∑ k : Fin 1024, unitRow (fun j => x (ix2 (i 0) j)) (fun j => g (ix1 j)) k * w (ix2 k l)) (i 1)

namespace Call

open Cert.Kernel5Ideal Cert.Kernel5Ideal.Gen

theorem pay2_apply (x : Vec Ideal S512x1024 .f32) (g : Vec Ideal S1x1024 .f32) (w : Vec Ideal S1024x128 .f32) (r : Fin 512) (l : Fin 128) :
    k0_pay2 x g w (ix2 r l) = ∑ k : Fin 1024, unitRow (fun j => x (ix2 r j)) (fun j => g (ix2 (0 : Fin 1) j)) k * w (ix2 k l) := by
  pointwise [k0_pay2, unitRow]

theorem pay3_apply (r : Fin 512) (l : Fin 128) : k0_pay3 (ix2 r l) = if l.val % 64 < 32 then 1#1 else 0#1 := by
  pointwise [k0_pay3]
  revert l
  decide +kernel

theorem pay4_apply (co : Vec Ideal S512x128 .f32) (r : Fin 512) (l : Fin 128) : k0_pay4 co (ix2 r l) = co (ix2 r l) := by
  pointwise [k0_pay4]

theorem below : ∀ l : Fin 128, IntOp.cmpi .slt (BitVec.ofNat 32 l.val) 64#32 = if l.val < 64 then 1#1 else 0#1 := by decide +kernel

theorem pay1_apply (z : FVec Ideal S512x128 .f32) (co si : Vec Ideal S512x128 .f32) (r : Fin 512) (l : Fin 128) :
    k0_pay1 z (iota .tc S512x128 32 [1] iota_S512x128_d1_w32) k0_pay3 co si (ix2 r l) =
      if l.val < 64 then z (ix2 r l) * co (ix2 r l) + (if l.val % 64 < 32 then z (ix2 r ⟨(l.val + 128 - 96) % 128, Nat.mod_lt _ (by omega)⟩) else z (ix2 r ⟨(l.val + 128 - 32) % 128, Nat.mod_lt _ (by omega)⟩)) * si (ix2 r l)
      else z (ix2 r l) * Ideal.ofBits .f32 0x3EB504F3#32 := by
  pointwise [k0_pay1, pay3_apply, below]
  by_cases h : l.val < 64 <;> by_cases h' : l.val % 64 < 32 <;> simp [h, h', Scalar.select]

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_w : ∀ t : Fin cfg0.N, win0_2.index t 0 = 0 ∧ win0_2.index t 1 = 0 := by decide +kernel
theorem index_c : ∀ t : Fin cfg0.N, win0_4.index t 0 = t.val % 8 ∧ win0_4.index t 1 = 0 := by decide +kernel
theorem index_s : ∀ t : Fin cfg0.N, win0_5.index t 0 = t.val % 8 ∧ win0_5.index t 1 = 0 := by decide +kernel
theorem index_o : ∀ t : Fin cfg0.N, win0_6.index t 0 = t.val ∧ win0_6.index t 1 = 0 := by decide +kernel

/-- The arguments: the rows, the norm's gains, the weights. -/
abbrev argX : FVec Ideal S16384x1024 .f32 := m ((c : Thread nD τ).loc main_arg0)
abbrev argG : FVec Ideal S1024 .f32 := m ((c : Thread nD τ).loc main_arg1)
abbrev argW : FVec Ideal S1024x128 .f32 := m ((c : Thread nD τ).loc main_arg2)

theorem host_x : (V m c main_arg0 : FVec Ideal S16384x1024 .f32) = argX m c := V_main_arg0 m c
theorem host_w : (V m c main_arg2 : FVec Ideal S1024x128 .f32) = argW m c := V_main_arg2 m c

theorem host_g (k : Fin 1024) : (V m c main_v25 : FVec Ideal S1x1024 .f32) (ix2 (0 : Fin 1) k) = argG m c (ix1 k) := by
  have e : (V m c main_v25 : FVec Ideal S1x1024 .f32) = shapeCast S1x1024 (argG m c) shapeCasts_S1024_S1x1024 := by
    show StableHlo.after hostOps0 _ _ = _
    after_results
    try rfl
  rw [e]
  pointwise

/-- The table of cosines. -/
theorem host_cos (p : Fin 4096) (l : Fin 128) : (V m c main_v21 : FVec Ideal S4096x128 .f32) (ix2 p l) =
    if l.val % 64 < 32 then Ideal.cos (angle p.val (l.val % 64)) else Ideal.cos (angle p.val (l.val % 64 - 32)) := by
  show StableHlo.after hostOps0 _ _ _ = _
  after_results
  pointwise
  rfl

/-- The table of sines, those of the first half negated. -/
theorem host_sin (p : Fin 4096) (l : Fin 128) : (V m c main_v24 : FVec Ideal S4096x128 .f32) (ix2 p l) =
    if l.val % 64 < 32 then -Ideal.sin (angle p.val (l.val % 64)) else Ideal.sin (angle p.val (l.val % 64 - 32)) := by
  show StableHlo.after hostOps0 _ _ _ = _
  after_results
  pointwise
  rfl

variable (t : Fin cfg0.N)

theorem point_lt : t.val < 32 := t.isLt

/-- The row of the array that is row `r` of the block of a point, and its position. -/
def rowAt (r : Fin 512) : Fin 16384 := ⟨512 * t.val + r.val, by have := point_lt t; omega⟩
def posAt (r : Fin 512) : Fin 4096 := ⟨512 * (t.val % 8) + r.val, by omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_w (k : Fin 1024) (l : Fin 128) : iblk m c 2 t (ix2 k l) = argW m c (ix2 k l) := by
  rw [← host_w]
  obtain ⟨i0, i1⟩ := index_w t
  blk_ext [iblk, i0, i1]

theorem read_c (r : Fin 512) (l : Fin 128) : iblk m c 4 t (ix2 r l) =
    if l.val % 64 < 32 then Ideal.cos (angle (posAt t r).val (l.val % 64)) else Ideal.cos (angle (posAt t r).val (l.val % 64 - 32)) := by
  rw [← host_cos m c]
  obtain ⟨i0, i1⟩ := index_c t
  blk_ext [iblk, posAt, i0, i1]

theorem read_s (r : Fin 512) (l : Fin 128) : iblk m c 5 t (ix2 r l) =
    if l.val % 64 < 32 then -Ideal.sin (angle (posAt t r).val (l.val % 64)) else Ideal.sin (angle (posAt t r).val (l.val % 64 - 32)) := by
  rw [← host_sin m c]
  obtain ⟨i0, i1⟩ := index_s t
  blk_ext [iblk, posAt, i0, i1]

theorem stored : out0_6 (iblk m c 0 t) (iblk m c 1 t) (iblk m c 2 t) (iblk m c 3 t) (iblk m c 4 t) (iblk m c 5 t)
    = k0_pay1 (k0_pay2 (iblk m c 0 t) (iblk m c 1 t) (iblk m c 2 t)) (iota .tc S512x128 32 [1] iota_S512x128_d1_w32) k0_pay3 (k0_pay4 (iblk m c 4 t)) (iblk m c 5 t) := by
  frame_out

/-- A row's lanes as the call computes them are those of its position. -/
theorem lanes_eq (p : ℕ) (z : Fin 128 → EReal) (l : Fin 128) :
    (if l.val < 64 then z l * (if l.val % 64 < 32 then Ideal.cos (angle p (l.val % 64)) else Ideal.cos (angle p (l.val % 64 - 32)))
        + (if l.val % 64 < 32 then z ⟨(l.val + 128 - 96) % 128, Nat.mod_lt _ (by omega)⟩ else z ⟨(l.val + 128 - 32) % 128, Nat.mod_lt _ (by omega)⟩)
          * (if l.val % 64 < 32 then -Ideal.sin (angle p (l.val % 64)) else Ideal.sin (angle p (l.val % 64 - 32)))
      else z l * Ideal.ofBits .f32 0x3EB504F3#32) = lanes p z l := by
  unfold lanes rotated
  by_cases h : l.val < 64
  · rw [if_pos h, dif_pos h, Nat.mod_eq_of_lt h]
    by_cases h' : l.val < 32
    · simp only [h', if_true, dif_pos]
      rw [mul_neg, ← sub_eq_add_neg]
      congr 3
      exact Fin.ext (by show (l.val + 128 - 96) % 128 = l.val + 32; omega)
    · simp only [h', if_false, dif_neg, not_false_eq_true]
      congr 3
      exact Fin.ext (by show (l.val + 128 - 32) % 128 = l.val - 32; omega)
  · rw [if_neg h, dif_neg h]

theorem result_array : (dats m 0 c).arrAt 6 cfg0.N = value (argX m c) (argG m c) (argW m c) := by
  refine (dats m 0 c).arrAt_eq_of_covers 6 (value (argX m c) (argG m c) (argW m c)) (by decide +kernel) fun t hf y => ?_
  obtain ⟨i0, i1⟩ := index_o t
  blk_simp
  rw [after0_6]
  obtain ⟨r, l, rfl⟩ : ∃ (r : Fin 512) (l : Fin 128), y = ix2 r l := ⟨y 0, y 1, by funext a; fin_cases a <;> rfl⟩
  refine (congrFun (stored m c t) (ix2 r l)).trans ?_
  rw [pay1_apply]
  simp only [pay2_apply, pay4_apply, read_c, read_s, read_x, read_g, read_w]
  have he : ((cfg0.win 6).blk t).view.emb (ix2 r l) = ix2 (rowAt t r) l := by
    blk_ext [rowAt, i0, i1]
  refine Eq.trans ?_ (congrArg (value (argX m c) (argG m c) (argW m c)) he).symm
  have hp : (posAt t r).val = (rowAt t r).val % 4096 := by show 512 * (t.val % 8) + r.val = (512 * t.val + r.val) % 4096; omega
  refine (lanes_eq (posAt t r).val (fun l => ∑ k : Fin 1024, unitRow (fun j => argX m c (ix2 (rowAt t r) j)) (fun j => argG m c (ix1 j)) k * argW m c (ix2 k l)) l).trans ?_
  rw [hp]
  rfl

end Call

open Cert.Reference5Ideal Cert.Reference5Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨((h c).1).trans ?_, (h c).2⟩) (Cert.Reference5Ideal.Value.run m ρ)
  refine funext fun (i : S16384x128.Idx) => ?_
  obtain ⟨R, l, rfl⟩ : ∃ (R : Fin 16384) (l : Fin 128), i = ix2 R l := ⟨i 0, i 1, by funext a; fin_cases a <;> rfl⟩
  unfold Value.res_main_v50
  generalize m ((c.tc : Thread nD τ).loc main_arg0) = x
  generalize m ((c.tc : Thread nD τ).loc main_arg1) = g
  generalize m ((c.tc : Thread nD τ).loc main_arg2) = w
  pointwise [value, lanes, rotated, angle, unitRow]
  by_cases h : l.val < 64
  · by_cases h' : l.val < 32
    · simp only [dif_pos h, dif_pos h', Nat.add_comm 32 l.val]
    · simp only [dif_pos h, dif_neg h', show 32 + (l.val - 32) = l.val by omega, Fin.eta]
  · simp only [dif_neg h, show 64 + (l.val - 64) = l.val by omega, Fin.eta]

end Cert.Index
-- ==== Proof.Gate.lean ====
/- The logarithms of the forget gates: the norm of the rows times the weights, plus the bias, through the log of the sigmoid; what
   the call leaves in its result, and the reference read at an index. -/
module

public import proofs.«01_k».proof.Proof.Feed
public import proofs.«01_k».proof.Proof.Gen.Kernel6Ideal.Value
public import proofs.«01_k».proof.Proof.Gen.Reference6Ideal.Run

@[expose] public section

set_option maxRecDepth 16384

noncomputable section

namespace Cert.Gate

open Idealize.ShloMosaic Idealize.ShloMosaic.TcCoe Idealize.SL.Sem
open Cert.Kernel2Ideal.Feed (unitRow)

/-- The log of the sigmoid, as the call computes it. -/
def logSig (z : EReal) : EReal := min z 0 - Ideal.log1p (Ideal.exp (-FloatOps.absf (F := Ideal) (φ := .f32) z))

theorem log1p_exp_ne_bot (y : EReal) : Ideal.log1p (Ideal.exp y) ≠ ⊥ := by
  induction y using EReal.rec with
  | bot =>
    have e : Ideal.log1p (Ideal.exp ⊥) = ((Real.log 1 : ℝ) : EReal) := by
      show Ideal.log (1 + 0) = _
      rw [add_zero]
      show (if (1 : ℝ) ≤ 0 then (⊥ : EReal) else _) = _
      rw [if_neg (by norm_num)]
    rw [e]
    exact EReal.coe_ne_bot _
  | top =>
    have e : Ideal.log1p (Ideal.exp ⊤) = ⊤ := by
      show Ideal.log (1 + ⊤) = ⊤
      rw [show (1 : EReal) + ⊤ = ⊤ from rfl]
      rfl
    rw [e]
    exact top_ne_bot
  | coe r =>
    have h : ¬(1 + Real.exp r ≤ 0) := not_le.mpr (by positivity)
    have e : Ideal.log1p (Ideal.exp (r : EReal)) = ((Real.log (1 + Real.exp r) : ℝ) : EReal) := by
      show Ideal.log (((1 + Real.exp r : ℝ)) : EReal) = _
      show (if 1 + Real.exp r ≤ 0 then (⊥ : EReal) else _) = _
      rw [if_neg h]
    rw [e]
    exact EReal.coe_ne_bot _

theorem absf_neg (z : EReal) : FloatOps.absf (F := Ideal) (φ := .f32) (-z) = FloatOps.absf (F := Ideal) (φ := .f32) z := by
  show max (-z) (- -z) = max z (-z)
  rw [neg_neg, max_comm]

/-- The same from the other side: minus the softplus of the negation. -/
theorem logSig_of_softplus (z : EReal) :
    -(max (-z) 0 + Ideal.log1p (Ideal.exp (-FloatOps.absf (F := Ideal) (φ := .f32) (-z)))) = logSig z := by
  have h0 : max (-z) 0 ≠ (⊥ : EReal) := ne_of_gt (lt_of_lt_of_le EReal.bot_lt_zero (le_max_right _ _))
  rw [absf_neg, EReal.neg_add (Or.inl h0) (Or.inr (log1p_exp_ne_bot _)), logSig]
  congr 1
  rcases le_total z 0 with h | h
  · rw [min_eq_left h, max_eq_left (EReal.neg_nonneg.mpr h), neg_neg]
  · rw [min_eq_right h, max_eq_right (show -z ≤ 0 by simpa using EReal.neg_le_neg_iff.mpr h), neg_zero]

/-- Every normed row times the weights, plus the bias, through the log of the sigmoid. -/
def value (x : FVec Ideal ⟨2, ![16384, 1024]⟩ .f32) (g : FVec Ideal ⟨1, ![1024]⟩ .f32) (w : FVec Ideal ⟨2, ![1024, 128]⟩ .f32) (b : FVec Ideal ⟨1, ![128]⟩ .f32) : FVec Ideal ⟨2, ![16384, 128]⟩ .f32 := fun i =>
  logSig ((∑ k : Fin 1024, unitRow (fun j => x (ix2 (i 0) j)) (fun j => g (ix1 j)) k * w (ix2 k (i 1))) + b (ix1 (i 1)))

namespace Call

open Cert.Kernel6Ideal Cert.Kernel6Ideal.Gen

theorem pay1_apply (x : Vec Ideal S512x1024 .f32) (g : Vec Ideal S1x1024 .f32) (w : Vec Ideal S1024x128 .f32) (b : Vec Ideal S1x128 .f32) (r : Fin 512) (l : Fin 128) :
    k0_pay1 x g w b (ix2 r l) = logSig ((∑ k : Fin 1024, unitRow (fun j => x (ix2 r j)) (fun j => g (ix2 (0 : Fin 1) j)) k * w (ix2 k l)) + b (ix2 (0 : Fin 1) l)) := by
  pointwise [k0_pay1, unitRow, logSig]
  rw [zero_sub]

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_w : ∀ t : Fin cfg0.N, win0_2.index t 0 = 0 ∧ win0_2.index t 1 = 0 := by decide +kernel
theorem index_b : ∀ t : Fin cfg0.N, win0_3.index t 0 = 0 ∧ win0_3.index t 1 = 0 := by decide +kernel
theorem index_o : ∀ t : Fin cfg0.N, win0_6.index t 0 = t.val ∧ win0_6.index t 1 = 0 := by decide +kernel

/-- The arguments: the rows, the norm's gains, the weights, the bias. -/
abbrev argX : FVec Ideal S16384x1024 .f32 := m ((c : Thread nD τ).loc main_arg0)
abbrev argG : FVec Ideal S1024 .f32 := m ((c : Thread nD τ).loc main_arg1)
abbrev argW : FVec Ideal S1024x128 .f32 := m ((c : Thread nD τ).loc main_arg2)
abbrev argB : FVec Ideal S128 .f32 := m ((c : Thread nD τ).loc main_arg3)

theorem host_x : (V m c main_arg0 : FVec Ideal S16384x1024 .f32) = argX m c := V_main_arg0 m c
theorem host_w : (V m c main_arg2 : FVec Ideal S1024x128 .f32) = argW m c := V_main_arg2 m c

theorem host_g (k : Fin 1024) : (V m c main_v25 : FVec Ideal S1x1024 .f32) (ix2 (0 : Fin 1) k) = argG m c (ix1 k) := by
  have e : (V m c main_v25 : FVec Ideal S1x1024 .f32) = shapeCast S1x1024 (argG m c) shapeCasts_S1024_S1x1024 := by
    show StableHlo.after hostOps0 _ _ = _
    after_results
    try rfl
  rw [e]
  pointwise

theorem host_b (k : Fin 128) : (V m c main_v0 : FVec Ideal S1x128 .f32) (ix2 (0 : Fin 1) k) = argB m c (ix1 k) := by
  have e : (V m c main_v0 : FVec Ideal S1x128 .f32) = shapeCast S1x128 (argB m c) shapeCasts_S128_S1x128 := by
    show StableHlo.after hostOps0 _ _ = _
    after_results
    try rfl
  rw [e]
  pointwise

variable (t : Fin cfg0.N)

theorem point_lt : t.val < 32 := t.isLt

/-- The row of the array that is row `r` of the block of a point. -/
def rowAt (r : Fin 512) : Fin 16384 := ⟨512 * t.val + r.val, by have := point_lt t; omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_w (k : Fin 1024) (l : Fin 128) : iblk m c 2 t (ix2 k l) = argW m c (ix2 k l) := by
  rw [← host_w]
  obtain ⟨i0, i1⟩ := index_w t
  blk_ext [iblk, i0, i1]

theorem read_b (k : Fin 128) : iblk m c 3 t (ix2 (0 : Fin 1) k) = argB m c (ix1 k) := by
  rw [← host_b]
  obtain ⟨i0, i1⟩ := index_b t
  blk_ext [iblk, i0, i1]

theorem stored : out0_6 (iblk m c 0 t) (iblk m c 1 t) (iblk m c 2 t) (iblk m c 3 t) (iblk m c 4 t) (iblk m c 5 t)
    = k0_pay1 (iblk m c 0 t) (iblk m c 1 t) (iblk m c 2 t) (iblk m c 3 t) := by
  frame_out

theorem result_array : (dats m 0 c).arrAt 6 cfg0.N = value (argX m c) (argG m c) (argW m c) (argB m c) := by
  refine (dats m 0 c).arrAt_eq_of_covers 6 (value (argX m c) (argG m c) (argW m c) (argB m c)) (by decide +kernel) fun t hf y => ?_
  obtain ⟨i0, i1⟩ := index_o t
  blk_simp
  rw [after0_6]
  obtain ⟨r, l, rfl⟩ : ∃ (r : Fin 512) (l : Fin 128), y = ix2 r l := ⟨y 0, y 1, by funext a; fin_cases a <;> rfl⟩
  refine (congrFun (stored m c t) (ix2 r l)).trans ?_
  rw [pay1_apply]
  simp only [read_x, read_g, read_w, read_b]
  have he : ((cfg0.win 6).blk t).view.emb (ix2 r l) = ix2 (rowAt t r) l := by
    blk_ext [rowAt, i0, i1]
  exact (congrArg (value (argX m c) (argG m c) (argW m c) (argB m c)) he).symm

end Call

open Cert.Reference6Ideal Cert.Reference6Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = value (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨((h c).1).trans ?_, (h c).2⟩) (Cert.Reference6Ideal.Value.run m ρ)
  refine funext fun (i : S16384x128.Idx) => ?_
  obtain ⟨R, l, rfl⟩ : ∃ (R : Fin 16384) (l : Fin 128), i = ix2 R l := ⟨i 0, i 1, by funext a; fin_cases a <;> rfl⟩
  unfold Value.res_main_v17
  generalize m ((c.tc : Thread nD τ).loc main_arg0) = x
  generalize m ((c.tc : Thread nD τ).loc main_arg1) = g
  generalize m ((c.tc : Thread nD τ).loc main_arg2) = w
  generalize m ((c.tc : Thread nD τ).loc main_arg3) = b
  pointwise [value, unitRow]
  rw [if_neg (not_not.mpr rfl)]
  exact logSig_of_softplus _

end Cert.Gate
-- ==== Proof.Queries.lean ====
/- The queries of the indexer: the norm of the rows times the weights, each head of 64 lanes rotated by the angle of the row's
   position and scaled; what the call leaves in its result, and the reference read at an index. -/
module

public import proofs.«01_k».proof.Proof.Index
public import proofs.«01_k».proof.Proof.Gen.Kernel7Ideal.Value
public import proofs.«01_k».proof.Proof.Gen.Reference7Ideal.Run

@[expose] public section

set_option maxRecDepth 16384

noncomputable section

namespace Cert.Queries

open Idealize.ShloMosaic Idealize.ShloMosaic.TcCoe Idealize.SL.Sem
open Cert.Kernel2Ideal.Feed (unitRow)
open Cert.Index (angle)

/-- The lane with which a lane is rotated: 32 further in the first half of a head, 32 back in the second. -/
def partner (l : Fin 512) : Fin 512 := if h : l.val % 64 < 32 then ⟨l.val + 32, by omega⟩ else ⟨l.val - 32, by omega⟩

/-- A row of eight heads of 64 lanes, each head rotated and scaled. -/
def lanes (p : ℕ) (z : Fin 512 → EReal) (l : Fin 512) : EReal :=
  (if l.val % 64 < 32 then z l * Ideal.cos (angle p (l.val % 64)) - z (partner l) * Ideal.sin (angle p (l.val % 64))
   else z l * Ideal.cos (angle p (l.val % 64 - 32)) + z (partner l) * Ideal.sin (angle p (l.val % 64 - 32))) * Ideal.ofBits .f32 0x3E000000#32

/-- The normed rows times the weights, the lanes of each as `lanes` says for its position. -/
def value (x : FVec Ideal ⟨2, ![16384, 1024]⟩ .f32) (g : FVec Ideal ⟨1, ![1024]⟩ .f32) (w : FVec Ideal ⟨2, ![1024, 512]⟩ .f32) : FVec Ideal ⟨2, ![16384, 512]⟩ .bf16 := fun i =>
  lanes ((i 0).val % 4096) (fun l => ∑ k : Fin 1024, unitRow (fun j => x (ix2 (i 0) j)) (fun j => g (ix1 j)) k * w (ix2 k l)) (i 1)

namespace Call

open Cert.Kernel7Ideal Cert.Kernel7Ideal.Gen

theorem pay1_apply (x : Vec Ideal S1024x1024 .f32) (g : Vec Ideal S1x1024 .f32) (r k : Fin 1024) :
    k0_pay1 x g (ix2 r k) = unitRow (fun j => x (ix2 r j)) (fun j => g (ix2 (0 : Fin 1) j)) k := by
  pointwise [k0_pay1]
  rfl

theorem pay3_apply (n : Vec Ideal S1024x1024 .bf16) (w : Vec Ideal S1024x512 .bf16) (r : Fin 1024) (l : Fin 512) :
    k0_pay3 n w (ix2 r l) = ∑ k : Fin 1024, n (ix2 r k) * w (ix2 k l) := by
  pointwise [k0_pay3]

theorem pay6_apply (r : Fin 1024) (l : Fin 128) : k0_pay6 (ix2 r l) = if l.val % 64 < 32 then 1#1 else 0#1 := by
  pointwise [k0_pay6]
  revert l
  decide +kernel

/-- A lane of a group of 128 and the two lanes that are rotated onto it are, in the whole row, the lane and its partner. -/
theorem turned (z : Fin 512 → EReal) (co si : Fin 128 → EReal) (l i p q : Fin 512) (a : Fin 128) (ha : a.val = l.val % 128) (hi : i.val = l.val)
    (hp : l.val % 64 < 32 → p.val = l.val + 32) (hq : ¬l.val % 64 < 32 → q.val = l.val - 32) :
    z i * co a + Scalar.select (if a.val % 64 < 32 then 1#1 else 0#1) (z p) (z q) * si a
      = z l * co ⟨l.val % 128, by omega⟩ + z (partner l) * si ⟨l.val % 128, by omega⟩ := by
  obtain rfl : i = l := Fin.ext hi
  obtain ⟨a, _⟩ := a
  obtain rfl : a = i.val % 128 := ha
  have e : i.val % 128 % 64 = i.val % 64 := by omega
  by_cases h : i.val % 64 < 32
  · have hr : p = partner i := by rw [partner, dif_pos h]; exact Fin.ext (hp h)
    simp [h, Scalar.select, hr]
  · have hr : q = partner i := by rw [partner, dif_neg h]; exact Fin.ext (hq h)
    simp [h, Scalar.select, hr]

theorem pay2_apply (n : Vec Ideal S1024x1024 .bf16) (w : Vec Ideal S1024x512 .bf16) (co si : Vec Ideal S1024x128 .f32) (r : Fin 1024) (l : Fin 512) :
    k0_pay2 (k0_pay3 n w) (k0_pay4 co) (k0_pay5 si) k0_pay6 (k0_pay7 n w co si) (k0_pay9 n w co) (k0_pay10 n w si) (ix2 r l) =
      (k0_pay3 n w (ix2 r l) * co (ix2 r ⟨l.val % 128, by omega⟩) + k0_pay3 n w (ix2 r (partner l)) * si (ix2 r ⟨l.val % 128, by omega⟩)) * Ideal.ofBits .f32 0x3E000000#32 := by
  generalize hz : k0_pay3 n w = z
  pointwise [k0_pay2, k0_pay4, k0_pay5, k0_pay7, k0_pay9, k0_pay10, k0_pay8, pay6_apply, hz]
  congr 1
  split_ifs with h1 h2 h3
  all_goals
    refine turned (fun l => z (ix2 r l)) (fun a => co (ix2 r a)) (fun a => si (ix2 r a)) l _ _ _ _ ?_ ?_ (fun h => ?_) (fun h => ?_) <;> dsimp only <;> omega

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_w : ∀ t : Fin cfg0.N, win0_2.index t 0 = 0 ∧ win0_2.index t 1 = 0 := by decide +kernel
theorem index_c : ∀ t : Fin cfg0.N, win0_3.index t 0 = t.val % 4 ∧ win0_3.index t 1 = 0 := by decide +kernel
theorem index_s : ∀ t : Fin cfg0.N, win0_4.index t 0 = t.val % 4 ∧ win0_4.index t 1 = 0 := by decide +kernel
theorem index_o : ∀ t : Fin cfg0.N, win0_5.index t 0 = t.val ∧ win0_5.index t 1 = 0 := by decide +kernel

/-- The arguments: the rows, the norm's gains, the weights. -/
abbrev argX : FVec Ideal S16384x1024 .f32 := m ((c : Thread nD τ).loc main_arg0)
abbrev argG : FVec Ideal S1024 .f32 := m ((c : Thread nD τ).loc main_arg1)
abbrev argW : FVec Ideal S1024x512 .f32 := m ((c : Thread nD τ).loc main_arg2)

theorem host_x : (V m c main_arg0 : FVec Ideal S16384x1024 .f32) = argX m c := V_main_arg0 m c

theorem host_w : (V m c main_v0 : FVec Ideal S1024x512 .bf16) = argW m c := by
  have e : (V m c main_v0 : FVec Ideal S1024x512 .bf16) = truncf .bf16 (argW m c) bitsLt_bf16_f32 := by
    show StableHlo.after hostOps0 _ _ = _
    after_results
    try rfl
  rw [e]; rfl

theorem host_g (k : Fin 1024) : (V m c main_v25 : FVec Ideal S1x1024 .f32) (ix2 (0 : Fin 1) k) = argG m c (ix1 k) := by
  have e : (V m c main_v25 : FVec Ideal S1x1024 .f32) = shapeCast S1x1024 (argG m c) shapeCasts_S1024_S1x1024 := by
    show StableHlo.after hostOps0 _ _ = _
    after_results
    try rfl
  rw [e]
  pointwise

/-- The table of cosines. -/
theorem host_cos (p : Fin 4096) (l : Fin 128) : (V m c main_v21 : FVec Ideal S4096x128 .f32) (ix2 p l) =
    if l.val % 64 < 32 then Ideal.cos (angle p.val (l.val % 64)) else Ideal.cos (angle p.val (l.val % 64 - 32)) := by
  show StableHlo.after hostOps0 _ _ _ = _
  after_results
  pointwise
  rfl

/-- The table of sines, those of the first half negated. -/
theorem host_sin (p : Fin 4096) (l : Fin 128) : (V m c main_v24 : FVec Ideal S4096x128 .f32) (ix2 p l) =
    if l.val % 64 < 32 then -Ideal.sin (angle p.val (l.val % 64)) else Ideal.sin (angle p.val (l.val % 64 - 32)) := by
  show StableHlo.after hostOps0 _ _ _ = _
  after_results
  pointwise
  rfl

variable (t : Fin cfg0.N)

theorem point_lt : t.val < 16 := t.isLt

/-- The row of the array that is row `r` of the block of a point, and its position. -/
def rowAt (r : Fin 1024) : Fin 16384 := ⟨1024 * t.val + r.val, by have := point_lt t; omega⟩
def posAt (r : Fin 1024) : Fin 4096 := ⟨1024 * (t.val % 4) + r.val, by omega⟩

theorem read_x (r k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_w (k : Fin 1024) (l : Fin 512) : iblk m c 2 t (ix2 k l) = argW m c (ix2 k l) := by
  rw [← host_w]
  obtain ⟨i0, i1⟩ := index_w t
  blk_ext [iblk, i0, i1]

theorem read_c (r : Fin 1024) (l : Fin 128) : iblk m c 3 t (ix2 r l) =
    if l.val % 64 < 32 then Ideal.cos (angle (posAt t r).val (l.val % 64)) else Ideal.cos (angle (posAt t r).val (l.val % 64 - 32)) := by
  rw [← host_cos m c]
  obtain ⟨i0, i1⟩ := index_c t
  blk_ext [iblk, posAt, i0, i1]

theorem read_s (r : Fin 1024) (l : Fin 128) : iblk m c 4 t (ix2 r l) =
    if l.val % 64 < 32 then -Ideal.sin (angle (posAt t r).val (l.val % 64)) else Ideal.sin (angle (posAt t r).val (l.val % 64 - 32)) := by
  rw [← host_sin m c]
  obtain ⟨i0, i1⟩ := index_s t
  blk_ext [iblk, posAt, i0, i1]

/-- The normed rows of a point, as the call keeps them. -/
abbrev normed : Vec Ideal S1024x1024 .bf16 := k0_pay1 (iblk m c 0 t) (iblk m c 1 t)

theorem stored : outsAt0 m c t = k0_pay2 (k0_pay3 (normed m c t) (iblk m c 2 t)) (k0_pay4 (iblk m c 3 t)) (k0_pay5 (iblk m c 4 t)) k0_pay6
    (k0_pay7 (normed m c t) (iblk m c 2 t) (iblk m c 3 t) (iblk m c 4 t)) (k0_pay9 (normed m c t) (iblk m c 2 t) (iblk m c 3 t)) (k0_pay10 (normed m c t) (iblk m c 2 t) (iblk m c 4 t)) := by
  unfold outsAt0
  frame_out

/-- A row's lanes as the call computes them are those of its position. -/
theorem lanes_eq (p : ℕ) (z : Fin 512 → EReal) (l : Fin 512) :
    (z l * (if l.val % 128 % 64 < 32 then Ideal.cos (angle p (l.val % 128 % 64)) else Ideal.cos (angle p (l.val % 128 % 64 - 32)))
      + z (partner l) * (if l.val % 128 % 64 < 32 then -Ideal.sin (angle p (l.val % 128 % 64)) else Ideal.sin (angle p (l.val % 128 % 64 - 32)))) * Ideal.ofBits .f32 0x3E000000#32 = lanes p z l := by
  rw [show l.val % 128 % 64 = l.val % 64 by omega, lanes]
  by_cases h : l.val % 64 < 32
  · simp only [h, if_true]
    rw [mul_neg, ← sub_eq_add_neg]
  · simp only [h, if_false]

theorem result_array : (dats m 0 c).arrAt 5 cfg0.N = value (argX m c) (argG m c) (argW m c) := by
  refine (dats m 0 c).arrAt_eq_of_covers 5 (value (argX m c) (argG m c) (argW m c)) (by decide +kernel) fun t hf y => ?_
  obtain ⟨i0, i1⟩ := index_o t
  blk_simp
  rw [after0_5]
  obtain ⟨r, l, rfl⟩ : ∃ (r : Fin 1024) (l : Fin 512), y = ix2 r l := ⟨y 0, y 1, by funext a; fin_cases a <;> rfl⟩
  refine (congrFun (stored m c t) (ix2 r l)).trans ?_
  rw [pay2_apply]
  simp only [pay3_apply, pay1_apply, read_c, read_s, read_x, read_g, read_w]
  have he : ((cfg0.win 5).blk t).view.emb (ix2 r l) = ix2 (rowAt t r) l := by
    blk_ext [rowAt, i0, i1]
  refine Eq.trans ?_ (congrArg (value (argX m c) (argG m c) (argW m c)) he).symm
  have hp : (posAt t r).val = (rowAt t r).val % 4096 := by show 1024 * (t.val % 4) + r.val = (1024 * t.val + r.val) % 4096; omega
  refine (lanes_eq (posAt t r).val (fun l => ∑ k : Fin 1024, unitRow (fun j => argX m c (ix2 (rowAt t r) j)) (fun j => argG m c (ix1 j)) k * argW m c (ix2 k l)) l).trans ?_
  rw [hp]
  rfl

end Call

open Cert.Reference7Ideal Cert.Reference7Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨((h c).1).trans ?_, (h c).2⟩) (Cert.Reference7Ideal.Value.run m ρ)
  refine funext fun (i : S16384x512.Idx) => ?_
  obtain ⟨R, l, rfl⟩ : ∃ (R : Fin 16384) (l : Fin 512), i = ix2 R l := ⟨i 0, i 1, by funext a; fin_cases a <;> rfl⟩
  unfold Value.res_main_v48
  generalize m ((c.tc : Thread nD τ).loc main_arg0) = x
  generalize m ((c.tc : Thread nD τ).loc main_arg1) = g
  generalize m ((c.tc : Thread nD τ).loc main_arg2) = w
  pointwise [value, lanes, angle, unitRow]
  congr 1
  by_cases h : l.val % 64 < 32
  · simp only [dif_pos h, if_pos h, partner, show l.val / 64 * 64 + (32 + l.val % 64) = l.val + 32 by omega]
  · simp only [dif_neg h, if_neg h, partner, show l.val / 64 * 64 + (32 + (l.val % 64 - 32)) = l.val by omega,
      show l.val / 64 * 64 + (l.val % 64 - 32) = l.val - 32 by omega, Fin.eta]

end Cert.Queries
-- ==== Proof.Sums.lean ====
/- The running sum of the gates over time: twelve steps, each of which adds to a sum of so many terms the sum of as many terms before
   them; what the call leaves in its four results, and the reference read at an index. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Sums

open Idealize.ShloMosaic Idealize.ShloMosaic.TcCoe Idealize.SL.Sem

/-- The sum of the last `n` terms up to the term `l` (of all of them, when there are fewer). -/
def last (n : ℕ) (f : ℕ → EReal) (l : ℕ) : EReal := ∑ k ∈ Finset.range n, if k ≤ l then f (l - k) else 0

theorem last_one (f : ℕ → EReal) (l : ℕ) : last 1 f l = f l := by simp [last]

/-- Twice as many terms: the sum of the last `n` and of the `n` before them. -/
theorem last_double (n : ℕ) (f : ℕ → EReal) (l : ℕ) : last n f l + (if n ≤ l then last n f (l - n) else 0) = last (n + n) f l := by
  unfold last
  rw [Finset.sum_range_add]
  congr 1
  by_cases h : n ≤ l
  · rw [if_pos h]
    refine Finset.sum_congr rfl fun k _ => ?_
    by_cases hk : n + k ≤ l
    · rw [if_pos hk, if_pos (by omega), Nat.sub_sub]
    · rw [if_neg hk, if_neg (by omega)]
  · rw [if_neg h]
    exact (Finset.sum_eq_zero fun k _ => if_neg (by omega)).symm

/-- The terms of a batch and a head, by time. -/
def terms (lf : FVec Ideal ⟨3, ![4, 4096, 16]⟩ .f32) (b : Fin 4) (h : Fin 16) (s : ℕ) : EReal := if hs : s < 4096 then lf (ix3 b ⟨s, hs⟩ h) else 0

/-- The running sum over time, to the base 2: the sum of the terms so far (at most 4096) times 1/log 2. -/
def total (lf : FVec Ideal ⟨3, ![4, 4096, 16]⟩ .f32) : FVec Ideal ⟨3, ![4, 16, 4096]⟩ .f32 := fun i =>
  last 4096 (terms lf (i 0) (i 1)) (i 2).val * (((Real.log 2)⁻¹ : ℝ) : EReal)

/-- What is left of the running sum after its first part, and after its second. -/
def rest (lf : FVec Ideal ⟨3, ![4, 4096, 16]⟩ .f32) : FVec Ideal ⟨3, ![4, 16, 4096]⟩ .bf16 := fun i => total lf i - total lf i
def rest' (lf : FVec Ideal ⟨3, ![4, 4096, 16]⟩ .f32) : FVec Ideal ⟨3, ![4, 16, 4096]⟩ .bf16 := fun i => rest lf i - rest lf i

namespace Call

open Cert.Kernel8Ideal Cert.Kernel8Ideal.Gen

/-- One step: every lane plus the lane `d` before it, where there is one. -/
def step (d : ℕ) (x : FVec Ideal S16x4096 .f32) : FVec Ideal S16x4096 .f32 :=
  addf x (select (cmpi .sge (iota .tc S16x4096 32 [1] iota_S16x4096_d1_w32) (broadcast S16x4096 (BitVec.ofNat 32 d))) (dynamicRotate 1 (BitVec.ofNat 32 d) none x rotates_S16x4096_d1) (broadcast S16x4096 (Scalar.ofBits .f32 0x00000000#32)))

theorem at_least (d l : ℕ) (hd : d < 4096) (hl : l < 4096) : IntOp.cmpi .sge (BitVec.ofNat 32 l) (BitVec.ofNat 32 d) = if d ≤ l then 1#1 else 0#1 := by
  have h : ∀ n : ℕ, n < 4096 → (BitVec.ofNat 32 n).toInt = (n : ℤ) := fun n hn => by
    rw [BitVec.toInt_eq_toNat_of_lt] <;> rw [BitVec.toNat_ofNat] <;> omega
  simp only [IntOp.cmpi, BitVec.sle, h d hd, h l hl, Int.ofNat_le]
  by_cases hdl : d ≤ l <;> simp [hdl]

theorem step_apply (d : ℕ) (hd : d < 4096) (x : FVec Ideal S16x4096 .f32) (r : Fin 16) (l : Fin 4096) :
    step d x (ix2 r l) = x (ix2 r l) + if h : d ≤ l.val then x (ix2 r ⟨l.val - d, by omega⟩) else 0 := by
  have hw : (BitVec.ofNat 32 d).toNat = d := by rw [BitVec.toNat_ofNat]; omega
  pointwise [step, at_least d l.val hd l.isLt, hw]
  congr 1
  by_cases h : d ≤ l.val
  · rw [if_pos h, dif_pos h]
    have e : (l.val + 4096 - d % 4096) % 4096 = l.val - d := by omega
    simp only [e]
    rfl
  · rw [if_neg h, dif_neg h]
    rfl

/-- A step doubles the number of terms. -/
theorem step_last (d : ℕ) (hd : d < 4096) (x : FVec Ideal S16x4096 .f32) (f : Fin 16 → ℕ → EReal)
    (hx : ∀ r (l : Fin 4096), x (ix2 r l) = last d (f r) l.val) (r : Fin 16) (l : Fin 4096) : step d x (ix2 r l) = last (d + d) (f r) l.val := by
  rw [step_apply d hd, ← last_double, hx]
  congr 1
  by_cases h : d ≤ l.val
  · rw [dif_pos h, if_pos h, hx]
  · rw [dif_neg h, if_neg h]

/-- The block that all four results are made of: twelve steps, and the product with 1/log 2. -/
theorem pay11_eq (x : Vec Ideal S1x16x4096 .f32) : k0_pay11 x = mulf (step 2048 (step 1024 (step 512 (step 256 (step 128 (step 64 (step 32 (step 16 (step 8 (step 4 (step 2 (step 1
    (shapeCast S16x4096 (View.ld x r0_0) shapeCasts_S1x16x4096_S16x4096)))))))))))))
    (broadcast S16x4096 (Named.named κ "log2e" 0x3FB8AA3B#32)) := rfl

theorem pay11_apply (x : Vec Ideal S1x16x4096 .f32) (f : Fin 16 → ℕ → EReal) (hx : ∀ r (l : Fin 4096), x (ix3 (0 : Fin 1) r l) = f r l.val)
    (r : Fin 16) (l : Fin 4096) : k0_pay11 x (ix2 r l) = last 4096 (f r) l.val * (((Real.log 2)⁻¹ : ℝ) : EReal) := by
  rw [pay11_eq]
  refine congrArg₂ (· * ·) ?_ ?_
  · refine step_last 2048 (by norm_num) _ f (step_last 1024 (by norm_num) _ f (step_last 512 (by norm_num) _ f (step_last 256 (by norm_num) _ f
      (step_last 128 (by norm_num) _ f (step_last 64 (by norm_num) _ f (step_last 32 (by norm_num) _ f (step_last 16 (by norm_num) _ f
      (step_last 8 (by norm_num) _ f (step_last 4 (by norm_num) _ f (step_last 2 (by norm_num) _ f (step_last 1 (by norm_num) _ f fun r l => ?_))))))))))) r l
    rw [last_one, ← hx]
    pointwise
  · rfl

variable (m : (ℓ : Loc nD τ sig) → Buf (Elt Ideal) ℓ) (c : Dev nD)

theorem index_x : ∀ t : Fin cfg0.N, win0_0.index t 0 = t.val ∧ win0_0.index t 1 = 0 ∧ win0_0.index t 2 = 0 := by decide +kernel

/-- The argument: the logarithms of the gates, by batch, time and head. -/
abbrev argF : FVec Ideal S4x4096x16 .f32 := m ((c : Thread nD τ).loc main_arg0)

theorem host_x (b : Fin 4) (h : Fin 16) (l : Fin 4096) : (V m c main_v0 : FVec Ideal S4x16x4096 .f32) (ix3 b h l) = argF m c (ix3 b l h) := by
  have e : (V m c main_v0 : FVec Ideal S4x16x4096 .f32) = transpose S4x16x4096 [0, 2, 1] (argF m c) transposes_S4x4096x16_S4x16x4096_0_2_1 := by
    show StableHlo.after hostOps0 _ _ = _
    after_results
    try rfl
  rw [e]
  pointwise

variable (t : Fin cfg0.N)

/-- The batch of a point. -/
def batch : Fin 4 := ⟨t.val, t.isLt⟩

theorem read_x (h : Fin 16) (l : Fin 4096) : iblk m c 0 t (ix3 (0 : Fin 1) h l) = terms (argF m c) (batch t) h l.val := by
  rw [terms, dif_pos l.isLt, ← host_x]
  obtain ⟨i0, i1, i2⟩ := index_x t
  blk_ext [iblk, batch, i0, i1, i2]

theorem summed (h : Fin 16) (l : Fin 4096) : k0_pay11 (iblk m c 0 t) (ix2 h l) = total (argF m c) (ix3 (batch t) h l) :=
  pay11_apply (iblk m c 0 t) (fun h => terms (argF m c) (batch t) h) (read_x m c t) h l

theorem index_o : ∀ t : Fin cfg0.N, win0_1.index t 0 = t.val ∧ win0_1.index t 1 = 0 ∧ win0_1.index t 2 = 0 := by decide +kernel

theorem stored1 : out0_1 (iblk m c 0 t) = k0_pay1 (k0_pay11 (iblk m c 0 t)) := by
  frame_out
theorem stored2 : out0_2 (iblk m c 0 t) = k0_pay5 (k0_pay11 (iblk m c 0 t)) := by
  frame_out
theorem stored3 : out0_3 (iblk m c 0 t) = k0_pay6 (k0_pay11 (iblk m c 0 t)) := by
  frame_out
theorem stored4 : out0_4 (iblk m c 0 t) = k0_pay7 (k0_pay11 (iblk m c 0 t)) := by
  frame_out

/-- An index of a block, by head and time. -/
theorem ofBlock (y : S1x16x4096.Idx) : ∃ (h : Fin 16) (l : Fin 4096), y = ix3 (0 : Fin 1) h l :=
  ⟨y 1, y 2, by funext a; fin_cases a <;> first | rfl | exact Subsingleton.elim (α := Fin 1) _ _⟩

/-- Where the index of a block lies in the array; the four results are cut alike. -/
theorem placed (h : Fin 16) (l : Fin 4096) : ((cfg0.win 1).blk t).view.emb (ix3 (0 : Fin 1) h l) = ix3 (batch t) h l := by
  obtain ⟨i0, i1, i2⟩ := index_o t
  blk_ext [batch, i0, i1, i2]

theorem result1 : (dats m 0 c).arrAt 1 cfg0.N = total (argF m c) := by
  refine (dats m 0 c).arrAt_eq_of_covers 1 (total (argF m c)) (by decide +kernel) fun t hf y => ?_
  blk_simp
  rw [after0_1]
  obtain ⟨h, l, rfl⟩ := ofBlock y
  refine (congrFun (stored1 m c t) (ix3 (0 : Fin 1) h l)).trans (Eq.trans ?_ (congrArg (total (argF m c)) (placed t h l)).symm)
  rw [← summed]
  pointwise [k0_pay1]

theorem result2 : (dats m 0 c).arrAt 2 cfg0.N = total (argF m c) := by
  refine (dats m 0 c).arrAt_eq_of_covers 2 (total (argF m c)) (by decide +kernel) fun t hf y => ?_
  blk_simp
  rw [after0_2]
  obtain ⟨h, l, rfl⟩ := ofBlock y
  refine (congrFun (stored2 m c t) (ix3 (0 : Fin 1) h l)).trans (Eq.trans ?_ (congrArg (total (argF m c)) (placed t h l)).symm)
  rw [← summed]
  pointwise [k0_pay5, k0_pay2]

theorem result3 : (dats m 0 c).arrAt 3 cfg0.N = rest (argF m c) := by
  refine (dats m 0 c).arrAt_eq_of_covers 3 (rest (argF m c)) (by decide +kernel) fun t hf y => ?_
  blk_simp
  rw [after0_3]
  obtain ⟨h, l, rfl⟩ := ofBlock y
  refine (congrFun (stored3 m c t) (ix3 (0 : Fin 1) h l)).trans (Eq.trans ?_ (congrArg (rest (argF m c)) (placed t h l)).symm)
  rw [rest, ← summed]
  pointwise [k0_pay6, k0_pay4, k0_pay3, k0_pay2]

theorem result4 : (dats m 0 c).arrAt 4 cfg0.N = rest' (argF m c) := by
  refine (dats m 0 c).arrAt_eq_of_covers 4 (rest' (argF m c)) (by decide +kernel) fun t hf y => ?_
  blk_simp
  rw [after0_4]
  obtain ⟨h, l, rfl⟩ := ofBlock y
  refine (congrFun (stored4 m c t) (ix3 (0 : Fin 1) h l)).trans (Eq.trans ?_ (congrArg (rest' (argF m c)) (placed t h l)).symm)
  rw [rest', rest, ← summed]
  pointwise [k0_pay7, k0_pay4, k0_pay3, k0_pay2]

end Call

/-- A sum over windows whose padding is zero is a sum over the places of the window. -/
theorem window_sum {s t u : Shape} (window strides lo hi : Fin s.rank → ℕ) (x : FVec Ideal s .f32) (init : FVec Ideal u .f32)
    (h : s.ReduceWindows window strides lo hi t) (hu : 0 < u.numel) (h0 : init (Shape.Idx.first hu) = (0 : EReal)) (j : t.Idx) :
    Host.reduceWindowAdd window strides lo hi x init h hu j = ∑ i : (⟨s.rank, window⟩ : Shape).Idx,
      if hin : ∀ a : Fin s.rank, lo a ≤ (j (a.cast h.1.symm)).val * strides a + (i a).val ∧ (j (a.cast h.1.symm)).val * strides a + (i a).val - lo a < s.size a
      then (x fun a => ⟨(j (a.cast h.1.symm)).val * strides a + (i a).val - lo a, (hin a).2⟩ : EReal) else 0 := by
  let W : Shape := ⟨s.rank, window⟩
  have h1 : ∀ (G : W.Idx → EReal) (L : List (Fin W.numel)) (v : EReal), L.foldl (fun r n => r + G (W.rowMajor.symm n)) v = v + (L.map fun n => G (W.rowMajor.symm n)).sum := by
    intro G L
    induction L with
    | nil => intro v; simp
    | cons n L ih => intro v; rw [List.foldl_cons, ih, List.map_cons, List.sum_cons, add_assoc]
  have h2 : ∀ G : W.Idx → EReal, (List.finRange W.numel).foldl (fun r n => r + G (W.rowMajor.symm n)) 0 = ∑ i, G i := fun G => by
    rw [h1, zero_add, ← Fin.sum_univ_def, Equiv.sum_comp W.rowMajor.symm G]
  show Ideal.hostReduceWindowAdd window strides lo hi h x (init (Shape.Idx.first hu)) j = _
  rw [h0]
  refine Eq.trans ?_ (h2 fun i => if hin : ∀ a : Fin s.rank, lo a ≤ (j (a.cast h.1.symm)).val * strides a + (i a).val ∧ (j (a.cast h.1.symm)).val * strides a + (i a).val - lo a < s.size a
    then (x fun a => ⟨(j (a.cast h.1.symm)).val * strides a + (i a).val - lo a, (hin a).2⟩ : EReal) else 0)
  exact congrArg (fun f => List.foldl f (0 : EReal) (List.finRange W.numel)) (funext fun r => funext fun n => congrArg (r + ·) (by congr))

open Cert.Reference8Ideal Cert.Reference8Ideal.Gen in
/-- The reference's running sum at an index. -/
theorem window_apply (x : FVec Ideal S4x4096x16 .f32) (b : Fin 4) (l : Fin 4096) (h : Fin 16) :
    Host.reduceWindowAdd ![1, 4096, 1] ![1, 1, 1] ![0, 4095, 0] ![0, 0, 0] x (broadcastInDim S_ ![] bcast_S_S_ (constant S_ .f32 0x00000000#32))
      reduceWindows_S4x4096x16_S4x4096x16_w1s1p0_0_w4096s1p4095_0_w1s1p0_0 h_S_ (ix3 b l h) = last 4096 (terms x b h) l.val := by
  have hv : (broadcastInDim S_ ![] bcast_S_S_ (constant (F := Ideal) S_ .f32 0x00000000#32)) (Shape.Idx.first h_S_) = (0 : EReal) := by
    pointwise
  rw [window_sum _ _ _ _ _ _ _ _ hv]
  let e : Fin 4096 ≃ (⟨3, ![1, 4096, 1]⟩ : Shape).Idx := ⟨fun w => ix3 (0 : Fin 1) w (0 : Fin 1), fun i => i 1, fun _ => rfl, fun i => by
    funext a; fin_cases a <;> first | rfl | exact Subsingleton.elim (α := Fin 1) _ _⟩
  refine (Equiv.sum_comp e _).symm.trans ?_
  rw [Finset.sum_fin_eq_sum_range, last, ← Finset.sum_range_reflect]
  refine Finset.sum_congr rfl fun w hw => ?_
  have hw := Finset.mem_range.mp hw
  rw [dif_pos (by omega)]
  by_cases hc : w ≤ l.val
  · have ht : terms x b h (l.val - w) = x (ix3 b ⟨l.val - w, by omega⟩ h) := dif_pos (by omega)
    rw [if_pos hc, ht]
    refine (dif_pos ?_).trans (congrArg x ?_)
    · intro a
      fin_cases a
      · show 0 ≤ b.val * 1 + 0 ∧ b.val * 1 + 0 - 0 < 4
        omega
      · show 4095 ≤ l.val * 1 + (4096 - 1 - w) ∧ l.val * 1 + (4096 - 1 - w) - 4095 < 4096
        omega
      · show 0 ≤ h.val * 1 + 0 ∧ h.val * 1 + 0 - 0 < 16
        omega
    · funext a
      fin_cases a
      · exact Fin.ext (show b.val * 1 + 0 - 0 = b.val by omega)
      · exact Fin.ext (show l.val * 1 + (4096 - 1 - w) - 4095 = l.val - w by omega)
      · exact Fin.ext (show h.val * 1 + 0 - 0 = h.val by omega)
  · rw [if_neg hc]
    refine dif_neg fun hin => hc ?_
    have h1 : 4095 ≤ l.val * 1 + (4096 - 1 - w) := (hin (1 : Fin 3)).1
    omega

open Cert.Reference8Ideal Cert.Reference8Ideal.Gen in
/-- The quotient of the reference's running sum by log 2. -/
theorem quotient (x : FVec Ideal S4x4096x16 .f32) :
    Host.divf (transpose S4x16x4096 [0, 2, 1] (Host.reduceWindowAdd ![1, 4096, 1] ![1, 1, 1] ![0, 4095, 0] ![0, 0, 0] x (broadcastInDim S_ ![] bcast_S_S_ (constant S_ .f32 0x00000000#32))
      reduceWindows_S4x4096x16_S4x4096x16_w1s1p0_0_w4096s1p4095_0_w1s1p0_0 h_S_) transposes_S4x4096x16_S4x16x4096_0_2_1)
      (broadcastInDim S4x16x4096 ![] bcast_S_S4x16x4096 (Host.log (constant S_ .f32 0x40000000#32))) = total x := by
  refine funext fun (i : S4x16x4096.Idx) => ?_
  obtain ⟨b, h, l, rfl⟩ : ∃ (b : Fin 4) (h : Fin 16) (l : Fin 4096), i = ix3 b h l := ⟨i 0, i 1, i 2, by funext a; fin_cases a <;> rfl⟩
  have hl : Ideal.log (Ideal.ofBits .f32 0x40000000#32) = ((Real.log 2 : ℝ) : EReal) := by
    have e2 : Ideal.ofBits .f32 0x40000000#32 = ((2 : ℝ) : EReal) := by
      simp [Ideal.ofBits, Ideal.ieee, -EReal.coe_mul]
      norm_num
    rw [e2]
    exact if_neg (by norm_num)
  have hn : Real.log 2 ≠ 0 := (Real.log_pos one_lt_two).ne'
  refine Eq.trans (b := Ideal.div (last 4096 (terms x b h) l.val) (Ideal.log (Ideal.ofBits .f32 0x40000000#32))) ?_ ?_
  · rw [← window_apply]
    pointwise
  · rw [hl, Ideal.div_coe hn, one_div]
    rfl

open Cert.Reference8Ideal Cert.Reference8Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = total (m ((c.tc : Thread nD τ).loc main_arg0))
      ∧ r.2.mem ((c.tc : Thread nD τ).loc main_v5) = total (m ((c.tc : Thread nD τ).loc main_arg0))
      ∧ r.2.mem ((c.tc : Thread nD τ).loc main_v8) = rest (m ((c.tc : Thread nD τ).loc main_arg0))
      ∧ r.2.mem ((c.tc : Thread nD τ).loc main_v11) = rest' (m ((c.tc : Thread nD τ).loc main_arg0))
      ∧ r.2.mem ((c.tc : Thread nD τ).loc main_arg0) = m ((c.tc : Thread nD τ).loc main_arg0) := by
  refine (θ_run _ _ _).mono (fun r h c => ?_) (Cert.Reference8Ideal.Value.run m ρ)
  obtain ⟨h1, h2, h3, h4, h5⟩ := h c
  rw [quotient] at h1 h2 h3 h4
  exact ⟨h1, h2, h3, h4, h5⟩

end Cert.Sums
-- ==== Proof.SampleNorm.lean ====
/- The last norm of the sample's rows: what the call leaves in its result, and the reference's norm read at an index. -/
module

public import proofs.«01_k».proof.Proof.Norm
public import proofs.«01_k».proof.Proof.Gen.Kernel9Ideal.Value
public import proofs.«01_k».proof.Proof.Gen.Reference9Ideal.Run

@[expose] public section

set_option maxRecDepth 16384

noncomputable section

namespace Cert.SampleNorm

open Idealize.ShloMosaic Idealize.ShloMosaic.TcCoe Idealize.SL.Sem
open Cert.Kernel2Ideal.Feed (unitRow)

/-- Every row of the sample normed, times the gains. -/
def value (x : FVec Ideal ⟨2, ![1024, 1024]⟩ .f32) (g : FVec Ideal ⟨1, ![1024]⟩ .f32) : FVec Ideal ⟨2, ![1024, 1024]⟩ .f32 := fun i =>
  unitRow (fun j => x (ix2 (i 0) j)) (fun j => g (ix1 j)) (i 1)

namespace Call

open Cert.Kernel9Ideal Cert.Kernel9Ideal.Gen

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_o : ∀ t : Fin cfg0.N, win0_2.index t 0 = t.val ∧ win0_2.index t 1 = 0 := by decide +kernel

/-- The arguments: the rows and the gains. -/
abbrev argX : FVec Ideal S1024x1024 .f32 := m ((c : Thread nD τ).loc main_arg0)
abbrev argG : FVec Ideal S1024 .f32 := m ((c : Thread nD τ).loc main_arg1)

theorem host_x : (V m c main_arg0 : FVec Ideal S1024x1024 .f32) = argX m c := V_main_arg0 m c

theorem host_g (k : Fin 1024) : (V m c main_v0 : FVec Ideal S1x1024 .f32) (ix2 (0 : Fin 1) k) = argG m c (ix1 k) := by
  have e : (V m c main_v0 : FVec Ideal S1x1024 .f32) = shapeCast S1x1024 (argG m c) shapeCasts_S1024_S1x1024 := by
    show StableHlo.after hostOps0 _ _ = _
    after_results
    try rfl
  rw [e]
  pointwise

variable (t : Fin cfg0.N)

/-- The row of the array that is row `r` of the block of a point. -/
def rowAt (r : Fin 512) : Fin 1024 := ⟨512 * t.val + r.val, by have h : t.val < 2 := t.isLt; omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem stored : out0_2 (iblk m c 0 t) (iblk m c 1 t) = k0_pay1 (iblk m c 0 t) (iblk m c 1 t) := by
  frame_out

theorem result_array : (dats m 0 c).arrAt 2 cfg0.N = value (argX m c) (argG m c) := by
  refine (dats m 0 c).arrAt_eq_of_covers 2 (value (argX m c) (argG m c)) (by decide +kernel) fun t hf y => ?_
  obtain ⟨i0, i1⟩ := index_o t
  blk_simp
  rw [after0_2]
  obtain ⟨r, e, rfl⟩ : ∃ (r : Fin 512) (e : Fin 1024), y = ix2 r e := ⟨y 0, y 1, by funext a; fin_cases a <;> rfl⟩
  refine (congrFun (stored m c t) (ix2 r e)).trans ((Cert.Norm.Call.pay1_apply (iblk m c 0 t) (iblk m c 1 t) r e).trans ?_)
  simp only [read_x, read_g]
  have he : ((cfg0.win 2).blk t).view.emb (ix2 r e) = ix2 (rowAt t r) e := by
    blk_ext [rowAt, i0, i1]
  exact (congrArg (value (argX m c) (argG m c)) he).symm

end Call

open Cert.Reference9Ideal Cert.Reference9Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨((h c).1).trans ?_, (h c).2⟩) (Cert.Reference9Ideal.Value.run m ρ)
  generalize m ((c.tc : Thread nD τ).loc main_arg0) = x
  generalize m ((c.tc : Thread nD τ).loc main_arg1) = g
  refine funext fun (i : S1024x1024.Idx) => ?_
  obtain ⟨R, e, rfl⟩ : ∃ (R : Fin 1024) (e : Fin 1024), i = ix2 R e := ⟨i 0, i 1, by funext a; fin_cases a <;> rfl⟩
  pointwise [value, unitRow]

end Cert.SampleNorm
-- ==== Proof.SampleGate.lean ====
/- The logarithms of the forget gates of the sample's rows: what the call leaves in its result, and the reference read at an index. -/
module

public import proofs.«01_k».proof.Proof.Gate
public import proofs.«01_k».proof.Proof.Gen.Kernel10Ideal.Value
public import proofs.«01_k».proof.Proof.Gen.Reference10Ideal.Run

@[expose] public section

set_option maxRecDepth 16384

noncomputable section

namespace Cert.SampleGate

open Idealize.ShloMosaic Idealize.ShloMosaic.TcCoe Idealize.SL.Sem
open Cert.Kernel2Ideal.Feed (unitRow)
open Cert.Gate (logSig logSig_of_softplus)

/-- Every normed row of the sample times the weights, plus the bias, through the log of the sigmoid. -/
def value (x : FVec Ideal ⟨2, ![1024, 1024]⟩ .f32) (g : FVec Ideal ⟨1, ![1024]⟩ .f32) (w : FVec Ideal ⟨2, ![1024, 128]⟩ .f32) (b : FVec Ideal ⟨1, ![128]⟩ .f32) : FVec Ideal ⟨2, ![1024, 128]⟩ .f32 := fun i =>
  logSig ((∑ k : Fin 1024, unitRow (fun j => x (ix2 (i 0) j)) (fun j => g (ix1 j)) k * w (ix2 k (i 1))) + b (ix1 (i 1)))

namespace Call

open Cert.Kernel10Ideal Cert.Kernel10Ideal.Gen

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_w : ∀ t : Fin cfg0.N, win0_2.index t 0 = 0 ∧ win0_2.index t 1 = 0 := by decide +kernel
theorem index_b : ∀ t : Fin cfg0.N, win0_3.index t 0 = 0 ∧ win0_3.index t 1 = 0 := by decide +kernel
theorem index_o : ∀ t : Fin cfg0.N, win0_6.index t 0 = t.val ∧ win0_6.index t 1 = 0 := by decide +kernel

/-- The arguments: the rows, the norm's gains, the weights, the bias. -/
abbrev argX : FVec Ideal S1024x1024 .f32 := m ((c : Thread nD τ).loc main_arg0)
abbrev argG : FVec Ideal S1024 .f32 := m ((c : Thread nD τ).loc main_arg1)
abbrev argW : FVec Ideal S1024x128 .f32 := m ((c : Thread nD τ).loc main_arg2)
abbrev argB : FVec Ideal S128 .f32 := m ((c : Thread nD τ).loc main_arg3)

theorem host_x : (V m c main_arg0 : FVec Ideal S1024x1024 .f32) = argX m c := V_main_arg0 m c
theorem host_w : (V m c main_arg2 : FVec Ideal S1024x128 .f32) = argW m c := V_main_arg2 m c

theorem host_g (k : Fin 1024) : (V m c main_v33 : FVec Ideal S1x1024 .f32) (ix2 (0 : Fin 1) k) = argG m c (ix1 k) := by
  have e : (V m c main_v33 : FVec Ideal S1x1024 .f32) = shapeCast S1x1024 (argG m c) shapeCasts_S1024_S1x1024 := by
    show StableHlo.after hostOps0 _ _ = _
    after_results
    try rfl
  rw [e]
  pointwise

theorem host_b (k : Fin 128) : (V m c main_v0 : FVec Ideal S1x128 .f32) (ix2 (0 : Fin 1) k) = argB m c (ix1 k) := by
  have e : (V m c main_v0 : FVec Ideal S1x128 .f32) = shapeCast S1x128 (argB m c) shapeCasts_S128_S1x128 := by
    show StableHlo.after hostOps0 _ _ = _
    after_results
    try rfl
  rw [e]
  pointwise

variable (t : Fin cfg0.N)

theorem point_lt : t.val < 2 := t.isLt

/-- The row of the array that is row `r` of the block of a point. -/
def rowAt (r : Fin 512) : Fin 1024 := ⟨512 * t.val + r.val, by have := point_lt t; omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_w (k : Fin 1024) (l : Fin 128) : iblk m c 2 t (ix2 k l) = argW m c (ix2 k l) := by
  rw [← host_w]
  obtain ⟨i0, i1⟩ := index_w t
  blk_ext [iblk, i0, i1]

theorem read_b (k : Fin 128) : iblk m c 3 t (ix2 (0 : Fin 1) k) = argB m c (ix1 k) := by
  rw [← host_b]
  obtain ⟨i0, i1⟩ := index_b t
  blk_ext [iblk, i0, i1]

theorem stored : out0_6 (iblk m c 0 t) (iblk m c 1 t) (iblk m c 2 t) (iblk m c 3 t) (iblk m c 4 t) (iblk m c 5 t)
    = k0_pay1 (iblk m c 0 t) (iblk m c 1 t) (iblk m c 2 t) (iblk m c 3 t) := by
  frame_out

theorem result_array : (dats m 0 c).arrAt 6 cfg0.N = value (argX m c) (argG m c) (argW m c) (argB m c) := by
  refine (dats m 0 c).arrAt_eq_of_covers 6 (value (argX m c) (argG m c) (argW m c) (argB m c)) (by decide +kernel) fun t hf y => ?_
  obtain ⟨i0, i1⟩ := index_o t
  blk_simp
  rw [after0_6]
  obtain ⟨r, l, rfl⟩ : ∃ (r : Fin 512) (l : Fin 128), y = ix2 r l := ⟨y 0, y 1, by funext a; fin_cases a <;> rfl⟩
  refine (congrFun (stored m c t) (ix2 r l)).trans ((Cert.Gate.Call.pay1_apply (iblk m c 0 t) (iblk m c 1 t) (iblk m c 2 t) (iblk m c 3 t) r l).trans ?_)
  simp only [read_x, read_g, read_w, read_b]
  have he : ((cfg0.win 6).blk t).view.emb (ix2 r l) = ix2 (rowAt t r) l := by
    blk_ext [rowAt, i0, i1]
  exact (congrArg (value (argX m c) (argG m c) (argW m c) (argB m c)) he).symm

end Call

open Cert.Reference10Ideal Cert.Reference10Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = value (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨((h c).1).trans ?_, (h c).2⟩) (Cert.Reference10Ideal.Value.run m ρ)
  refine funext fun (i : S1024x128.Idx) => ?_
  obtain ⟨R, l, rfl⟩ : ∃ (R : Fin 1024) (l : Fin 128), i = ix2 R l := ⟨i 0, i 1, by funext a; fin_cases a <;> rfl⟩
  unfold Value.res_main_v17
  generalize m ((c.tc : Thread nD τ).loc main_arg0) = x
  generalize m ((c.tc : Thread nD τ).loc main_arg1) = g
  generalize m ((c.tc : Thread nD τ).loc main_arg2) = w
  generalize m ((c.tc : Thread nD τ).loc main_arg3) = b
  pointwise [value, unitRow]
  rw [if_neg (not_not.mpr rfl)]
  exact logSig_of_softplus _

end Cert.SampleGate
-- ==== Proof.SampleIndex.lean ====
/- The keys and the head weights of the indexer for the sample's rows, whose positions follow the 2048 past ones: what the call leaves
   in its result, and the reference read at an index. -/
module

public import proofs.«01_k».proof.Proof.Index
public import proofs.«01_k».proof.Proof.Gen.Kernel11Ideal.Value
public import proofs.«01_k».proof.Proof.Gen.Reference11Ideal.Run

@[expose] public section

set_option maxRecDepth 16384

noncomputable section

namespace Cert.SampleIndex

open Idealize.ShloMosaic Idealize.ShloMosaic.TcCoe Idealize.SL.Sem
open Cert.Kernel2Ideal.Feed (unitRow)
open Cert.Index (angle rotated lanes)

/-- The sample's normed rows times the weights, the lanes of each as `lanes` says for its position. -/
def value (x : FVec Ideal ⟨2, ![1024, 1024]⟩ .f32) (g : FVec Ideal ⟨1, ![1024]⟩ .f32) (w : FVec Ideal ⟨2, ![1024, 128]⟩ .f32) : FVec Ideal ⟨2, ![1024, 128]⟩ .f32 := fun i =>
  lanes (2048 + (i 0).val % 32) (fun l => ∑ k : Fin 1024, unitRow (fun j => x (ix2 (i 0) j)) (fun j => g (ix1 j)) k * w (ix2 k l)) (i 1)

namespace Call

open Cert.Kernel11Ideal Cert.Kernel11Ideal.Gen

theorem product (x : Vec Ideal S512x1024 .f32) (g : Vec Ideal S1x1024 .f32) (w : Vec Ideal S1024x128 .f32) (r : Fin 512) (l : Fin 128) :
    k0_pay2 x g w (ix2 r l) = ∑ k : Fin 1024, unitRow (fun j => x (ix2 r j)) (fun j => g (ix2 (0 : Fin 1) j)) k * w (ix2 k l) := Cert.Index.Call.pay2_apply x g w r l

theorem table (co : Vec Ideal S512x128 .f32) (r : Fin 512) (l : Fin 128) : k0_pay4 co (ix2 r l) = co (ix2 r l) := Cert.Index.Call.pay4_apply co r l

variable (m : (ℓ : Loc nD τ sig) → Buf (Elt Ideal) ℓ) (c : Dev nD)

theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_w : ∀ t : Fin cfg0.N, win0_2.index t 0 = 0 ∧ win0_2.index t 1 = 0 := by decide +kernel
theorem index_c : ∀ t : Fin cfg0.N, win0_4.index t 0 = t.val ∧ win0_4.index t 1 = 0 := by decide +kernel
theorem index_s : ∀ t : Fin cfg0.N, win0_5.index t 0 = t.val ∧ win0_5.index t 1 = 0 := by decide +kernel
theorem index_o : ∀ t : Fin cfg0.N, win0_6.index t 0 = t.val ∧ win0_6.index t 1 = 0 := by decide +kernel

/-- The arguments: the rows, the norm's gains, the weights. -/
abbrev argX : FVec Ideal S1024x1024 .f32 := m ((c : Thread nD τ).loc main_arg0)
abbrev argG : FVec Ideal S1024 .f32 := m ((c : Thread nD τ).loc main_arg1)
abbrev argW : FVec Ideal S1024x128 .f32 := m ((c : Thread nD τ).loc main_arg2)

theorem host_x : (V m c main_arg0 : FVec Ideal S1024x1024 .f32) = argX m c := V_main_arg0 m c
theorem host_w : (V m c main_arg2 : FVec Ideal S1024x128 .f32) = argW m c := V_main_arg2 m c

theorem host_g (k : Fin 1024) : (V m c main_v33 : FVec Ideal S1x1024 .f32) (ix2 (0 : Fin 1) k) = argG m c (ix1 k) := by
  have e : (V m c main_v33 : FVec Ideal S1x1024 .f32) = shapeCast S1x1024 (argG m c) shapeCasts_S1024_S1x1024 := by
    show StableHlo.after hostOps0 _ _ = _
    after_results
    try rfl
  rw [e]
  pointwise

/-- The table of cosines. -/
theorem host_cos (p : Fin 1024) (l : Fin 128) : (V m c main_v29 : FVec Ideal S1024x128 .f32) (ix2 p l) =
    if l.val % 64 < 32 then Ideal.cos (angle (2048 + p.val % 32) (l.val % 64)) else Ideal.cos (angle (2048 + p.val % 32) (l.val % 64 - 32)) := by
  show StableHlo.after hostOps0 _ _ _ = _
  after_results
  pointwise
  simp only [angle, BitVec.ofNat_add]
  rfl

/-- The table of sines, those of the first half negated. -/
theorem host_sin (p : Fin 1024) (l : Fin 128) : (V m c main_v32 : FVec Ideal S1024x128 .f32) (ix2 p l) =
    if l.val % 64 < 32 then -Ideal.sin (angle (2048 + p.val % 32) (l.val % 64)) else Ideal.sin (angle (2048 + p.val % 32) (l.val % 64 - 32)) := by
  show StableHlo.after hostOps0 _ _ _ = _
  after_results
  pointwise
  simp only [angle, BitVec.ofNat_add]
  rfl

variable (t : Fin cfg0.N)

theorem point_lt : t.val < 2 := t.isLt

/-- The row of the array that is row `r` of the block of a point. -/
def rowAt (r : Fin 512) : Fin 1024 := ⟨512 * t.val + r.val, by have := point_lt t; omega⟩

theorem read_x (r : Fin 512) (k : Fin 1024) : iblk m c 0 t (ix2 r k) = argX m c (ix2 (rowAt t r) k) := by
  rw [← host_x]
  obtain ⟨i0, i1⟩ := index_x t
  blk_ext [iblk, rowAt, i0, i1]

theorem read_g (k : Fin 1024) : iblk m c 1 t (ix2 (0 : Fin 1) k) = argG m c (ix1 k) := by
  rw [← host_g]
  obtain ⟨i0, i1⟩ := index_g t
  blk_ext [iblk, i0, i1]

theorem read_w (k : Fin 1024) (l : Fin 128) : iblk m c 2 t (ix2 k l) = argW m c (ix2 k l) := by
  rw [← host_w]
  obtain ⟨i0, i1⟩ := index_w t
  blk_ext [iblk, i0, i1]

theorem read_c (r : Fin 512) (l : Fin 128) : iblk m c 4 t (ix2 r l) =
    if l.val % 64 < 32 then Ideal.cos (angle (2048 + (rowAt t r).val % 32) (l.val % 64)) else Ideal.cos (angle (2048 + (rowAt t r).val % 32) (l.val % 64 - 32)) := by
  rw [← host_cos m c]
  obtain ⟨i0, i1⟩ := index_c t
  blk_ext [iblk, rowAt, i0, i1]

theorem read_s (r : Fin 512) (l : Fin 128) : iblk m c 5 t (ix2 r l) =
    if l.val % 64 < 32 then -Ideal.sin (angle (2048 + (rowAt t r).val % 32) (l.val % 64)) else Ideal.sin (angle (2048 + (rowAt t r).val % 32) (l.val % 64 - 32)) := by
  rw [← host_sin m c]
  obtain ⟨i0, i1⟩ := index_s t
  blk_ext [iblk, rowAt, i0, i1]

theorem stored : out0_6 (iblk m c 0 t) (iblk m c 1 t) (iblk m c 2 t) (iblk m c 3 t) (iblk m c 4 t) (iblk m c 5 t)
    = k0_pay1 (k0_pay2 (iblk m c 0 t) (iblk m c 1 t) (iblk m c 2 t)) (iota .tc S512x128 32 [1] iota_S512x128_d1_w32) k0_pay3 (k0_pay4 (iblk m c 4 t)) (iblk m c 5 t) := by
  frame_out

theorem result_array : (dats m 0 c).arrAt 6 cfg0.N = value (argX m c) (argG m c) (argW m c) := by
  refine (dats m 0 c).arrAt_eq_of_covers 6 (value (argX m c) (argG m c) (argW m c)) (by decide +kernel) fun t hf y => ?_
  obtain ⟨i0, i1⟩ := index_o t
  blk_simp
  rw [after0_6]
  obtain ⟨r, l, rfl⟩ : ∃ (r : Fin 512) (l : Fin 128), y = ix2 r l := ⟨y 0, y 1, by funext a; fin_cases a <;> rfl⟩
  refine (congrFun (stored m c t) (ix2 r l)).trans ((Cert.Index.Call.pay1_apply (k0_pay2 (iblk m c 0 t) (iblk m c 1 t) (iblk m c 2 t)) (k0_pay4 (iblk m c 4 t)) (iblk m c 5 t) r l).trans ?_)
  simp only [product, table, read_c, read_s, read_x, read_g, read_w]
  have he : ((cfg0.win 6).blk t).view.emb (ix2 r l) = ix2 (rowAt t r) l := by
    blk_ext [rowAt, i0, i1]
  refine Eq.trans ?_ (congrArg (value (argX m c) (argG m c) (argW m c)) he).symm
  refine (Cert.Index.Call.lanes_eq (2048 + (rowAt t r).val % 32) (fun l => ∑ k : Fin 1024, unitRow (fun j => argX m c (ix2 (rowAt t r) j)) (fun j => argG m c (ix1 j)) k * argW m c (ix2 k l)) l).trans ?_
  rfl

end Call

open Cert.Reference11Ideal Cert.Reference11Ideal.Gen in
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨((h c).1).trans ?_, (h c).2⟩) (Cert.Reference11Ideal.Value.run m ρ)
  refine funext fun (i : S1024x128.Idx) => ?_
  obtain ⟨R, l, rfl⟩ : ∃ (R : Fin 1024) (l : Fin 128), i = ix2 R l := ⟨i 0, i 1, by funext a; fin_cases a <;> rfl⟩
  unfold Value.res_main_v52
  generalize m ((c.tc : Thread nD τ).loc main_arg0) = x
  generalize m ((c.tc : Thread nD τ).loc main_arg1) = g
  generalize m ((c.tc : Thread nD τ).loc main_arg2) = w
  pointwise [value, lanes, rotated, angle, unitRow, BitVec.ofNat_add, IntOp.addi]
  by_cases h : l.val < 64
  · by_cases h' : l.val < 32
    · simp only [dif_pos h, dif_pos h', Nat.add_comm 32 l.val]
    · simp only [dif_pos h, dif_neg h', show 32 + (l.val - 32) = l.val by omega, Fin.eta]
  · simp only [dif_neg h, show 64 + (l.val - 64) = l.val by omega, Fin.eta]

end Cert.SampleIndex
-- ==== Proof.Finite.lean ====
/- The precondition read: the queries, the keys, the values and the four vectors of lambda are real numbers. -/
module

public import proofs.«01_k».proof.Pre_finite
public import Idealize.ShloMosaic.Lib.ReduceAll
public import Idealize.ShloMosaic.Lib.KernelVsHost

@[expose] public section

noncomputable section

namespace Cert.Pre_finite

open Idealize.ShloMosaic

/-- The side conditions of the predicate. -/
theorem facts : Facts := ⟨by decide, by decide, by decide, by decide, by decide⟩

/-- Below infinity in absolute value: a real number. -/
theorem real_of_lt (x : EReal) (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | coe y => exact ⟨y, rfl⟩
  | top => simp [Ideal.cmp] at h

attribute [local instance] facts

/-- An array whose comparison with infinity holds everywhere is real. -/
theorem all_real {s : Shape} {axes : List (Fin s.rank)} (x : FVec Ideal s .f32) (hb : S_.BroadcastsInDim s (![] : Fin 0 → Fin s.rank)) (hr : s.ReducesTo axes S_) (hu : 0 < S_.numel)
    (j : S_.Idx) (h : Host.reduce IntOp.andi (cmpf .olt (Host.absf x) (broadcastInDim s ![] hb (constant (F := Ideal) S_ .f32 0x7F800000#32))) (constantI S_ 1 1#1) hr hu j = 1#1)
    (i : s.Idx) : ∃ y : ℝ, x i = (y : EReal) := by
  haveI : Subsingleton S_.Idx := ⟨fun a b => funext fun z => z.elim0⟩
  exact real_of_lt (x i) (Host.reduce_andi_all _ _ hr hu j h i)

/-- The predicate, read. -/
theorem reals (q k v : FVec Ideal S4x4096x1024 .f32) (a b c d : FVec Ideal S64 .f32) (g : FVec Ideal S128 .f32) (h : fn (F := Ideal) q k v a b c d g = fun _ => 1#1) :
    (∀ i, ∃ y : ℝ, q i = (y : EReal)) ∧ (∀ i, ∃ y : ℝ, k i = (y : EReal)) ∧ (∀ i, ∃ y : ℝ, v i = (y : EReal)) ∧ (∀ i, ∃ y : ℝ, a i = (y : EReal))
      ∧ (∀ i, ∃ y : ℝ, b i = (y : EReal)) ∧ (∀ i, ∃ y : ℝ, c i = (y : EReal)) ∧ ∀ i, ∃ y : ℝ, d i = (y : EReal) := by
  have e := congrFun h (Shape.Idx.first Facts.h_S_)
  simp only [fn, fn_part1, andi] at e
  obtain ⟨e, hd⟩ := IntOp.andi_eq_one.1 e
  obtain ⟨e, hc⟩ := IntOp.andi_eq_one.1 e
  obtain ⟨e, hb⟩ := IntOp.andi_eq_one.1 e
  obtain ⟨e, ha⟩ := IntOp.andi_eq_one.1 e
  obtain ⟨e, hv⟩ := IntOp.andi_eq_one.1 e
  obtain ⟨hq, hk⟩ := IntOp.andi_eq_one.1 e
  exact ⟨all_real q _ _ _ _ hq, all_real k _ _ _ _ hk, all_real v _ _ _ _ hv, all_real a _ _ _ _ ha, all_real b _ _ _ _ hb, all_real c _ _ _ _ hc, all_real d _ _ _ _ hd⟩

end Cert.Pre_finite
-- ==== Proof.Head.lean ====
/- One query head of the attention body, as functions of what the body reads for that head: the tile of
   scores, the running maximum after the tile, and the accumulator after the tile. Each is read at an index. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Head

open Cert.KernelIdeal Cert.KernelIdeal.Gen Idealize.ShloMosaic

/-- The products of a tile's queries with its keys. -/
def raw (q k : Vec Ideal S1x512x128 .bf16) : FVec Ideal S512x512 .f32 :=
  matmul dot_S512x128_S512x128_S512x512_1_1_0_0_n_n none (shapeCast S512x128 q shapeCasts_S1x512x128_S512x128 : FVec Ideal S512x128 .bf16)
    (shapeCast S512x128 k shapeCasts_S1x512x128_S512x128 : FVec Ideal S512x128 .bf16) (constant S512x512 .f32 0x00000000#32)

/-- The same where the mask keeps them, the constant `mask` elsewhere. -/
def masked (keep : IVec S512x512 1) (q k : Vec Ideal S1x512x128 .bf16) : FVec Ideal S512x512 .f32 :=
  select keep (raw q k) (broadcast S512x512 (Named.named (F := Ideal) κ "mask" 0xF149F2CA#32))

/-- The running maximum after a tile of scores `s`. -/
def newMax (s : FVec Ideal S512x512 .f32) (mx : Vec Ideal S1x512x128 .f32) : FVec Ideal S512x128 .f32 :=
  maximumf (shapeCast S512x128 mx shapeCasts_S1x512x128_S512x128)
    (broadcastTo S512x128 (shapeCast S512x1 (multiReduction .maximumf [1] S512 s 0xFF800000#32 reduces_S512x512_S512 (.inl rfl) rfl) shapeCasts_S512_S512x1) broadcasts_S512x1_S512x128)

/-- One quarter of the weights of a tile: the lanes from `o` on. -/
def quarter (o : Fin 2 → ℕ) (h : S512x512.Slices o S512x128) (s : FVec Ideal S512x512 .f32) (mx : Vec Ideal S1x512x128 .f32) : FVec Ideal S512x128 .f32 :=
  exp2 (subf (extractStridedSlice S512x128 o s h) (newMax s mx))

/-- The accumulator after a tile: the old one rescaled, plus the tile's weights times the values beside a block of ones. -/
def newAcc (s : FVec Ideal S512x512 .f32) (v : Vec Ideal S1x512x128 .bf16) (mx : Vec Ideal S1x512x128 .f32) (a : Vec Ideal S1x512x256 .f32) : FVec Ideal S512x256 .f32 :=
  addf
    (mulf (concatenate S512x256 1 [⟨S512x128, exp2 (subf (shapeCast S512x128 mx shapeCasts_S1x512x128_S512x128) (newMax s mx))⟩,
        ⟨S512x128, exp2 (subf (shapeCast S512x128 mx shapeCasts_S1x512x128_S512x128) (newMax s mx))⟩] concatenates_S512x128_S512x128_S512x256_d1)
      (shapeCast S512x256 a shapeCasts_S1x512x256_S512x256))
    (matmul dot_S512x512_S512x256_S512x256_1_0_0_1_n_n none
      (truncf .bf16 (concatenate S512x512 1 [⟨S512x128, quarter ![0, 0] slices_S512x512_o0_0_S512x128 s mx⟩, ⟨S512x128, quarter ![0, 128] slices_S512x512_o0_128_S512x128 s mx⟩,
        ⟨S512x128, quarter ![0, 256] slices_S512x512_o0_256_S512x128 s mx⟩, ⟨S512x128, quarter ![0, 384] slices_S512x512_o0_384_S512x128 s mx⟩]
        concatenates_S512x128_S512x128_S512x128_S512x128_S512x512_d1) bitsLt_bf16_f32)
      (concatenate S512x256 1 [⟨S512x128, shapeCast S512x128 v shapeCasts_S1x512x128_S512x128⟩, ⟨S512x128, broadcast S512x128 (Scalar.ofBits .bf16 0x3F80#16)⟩] concatenates_S512x128_S512x128_S512x256_d1)
      (constant S512x256 .f32 0x00000000#32))

/-- The running maximum as it is stored. -/
def outMax (s : FVec Ideal S512x512 .f32) (mx : Vec Ideal S1x512x128 .f32) : FVec Ideal S1x512x128 .f32 :=
  shapeCast S1x512x128 (newMax s mx) shapeCasts_S512x128_S1x512x128

/-- The accumulator as it is stored. -/
def outAcc (s : FVec Ideal S512x512 .f32) (v : Vec Ideal S1x512x128 .bf16) (mx : Vec Ideal S1x512x128 .f32) (a : Vec Ideal S1x512x256 .f32) : FVec Ideal S1x512x256 .f32 :=
  shapeCast S1x512x256 (newAcc s v mx a) shapeCasts_S512x256_S1x512x256

/-- A product of the tile is the sum over the lanes. -/
theorem raw_apply (q k : Vec Ideal S1x512x128 .bf16) (r u : Fin 512) :
    raw q k (ix2 r u) = ∑ l : Fin 128, q (ix3 (0 : Fin 1) r l) * k (ix3 (0 : Fin 1) u l) := by
  pointwise [raw]

/-- The running maximum at a row and a lane: the greater of the old one and the row's greatest score. -/
theorem newMax_apply (s : FVec Ideal S512x512 .f32) (mx : Vec Ideal S1x512x128 .f32) (r : Fin 512) (l : Fin 128) :
    newMax s mx (ix2 r l) = max (mx (ix3 (0 : Fin 1) r l)) (Finset.univ.sup fun u : Fin 512 => s (ix2 r u)) := by
  pointwise [newMax]
  rw [show Ideal.ofBits FTy.f32 4286578688#32 = ⊥ by simp [Ideal.ofBits, Ideal.ieee]]
  rfl

/-- A quarter of the weights at a row and a lane. -/
theorem quarter_apply (n : ℕ) (h : S512x512.Slices ![0, n] S512x128) (hn : n + 128 ≤ 512) (s : FVec Ideal S512x512 .f32) (mx : Vec Ideal S1x512x128 .f32) (r : Fin 512) (l : Fin 128) :
    quarter ![0, n] h s mx (ix2 r l) = Ideal.exp2 (s (ix2 r ⟨n + l.val, by omega⟩) - newMax s mx (ix2 r l)) := by
  pointwise [quarter]
  rfl

/-- The stored maximum at a row and a lane. -/
theorem outMax_apply (s : FVec Ideal S512x512 .f32) (mx : Vec Ideal S1x512x128 .f32) (r : Fin 512) (l : Fin 128) :
    outMax s mx (ix3 (0 : Fin 1) r l) = newMax s mx (ix2 r l) := by
  pointwise [outMax]

/-- The four quarters of a row's weights, laid end to end, are the row's weights. -/
theorem quarters (s : FVec Ideal S512x512 .f32) (M : EReal) (r x : Fin 512) :
    (if h : x.val < 128 then (FloatOps.exp2 (F := Ideal) (φ := .f32) (s (ix2 r x) - M) : EReal)
      else if h : x.val - 128 < 128 then FloatOps.exp2 (F := Ideal) (φ := .f32) (s (ix2 r ⟨128 + (x.val - 128), by omega⟩) - M)
      else if h : x.val - 128 - 128 < 128 then FloatOps.exp2 (F := Ideal) (φ := .f32) (s (ix2 r ⟨256 + (x.val - 128 - 128), by omega⟩) - M)
      else FloatOps.exp2 (F := Ideal) (φ := .f32) (s (ix2 r ⟨384 + (x.val - 128 - 128 - 128), by omega⟩) - M))
    = Ideal.exp2 (s (ix2 r x) - M) := by
  have e : ∀ y : Fin 512, y.val = x.val → FloatOps.exp2 (F := Ideal) (φ := .f32) (s (ix2 r y) - M) = Ideal.exp2 (s (ix2 r x) - M) := by
    intro y hy; rw [Fin.ext hy]; rfl
  split_ifs with h1 h2 h3
  · exact e _ rfl
  · exact e _ (by show 128 + (x.val - 128) = _; omega)
  · exact e _ (by show 256 + (x.val - 128 - 128) = _; omega)
  · exact e _ (by show 384 + (x.val - 128 - 128 - 128) = _; omega)

/-- The stored accumulator at a row and a lane of its first half: the weighted values. -/
theorem outAcc_num (s : FVec Ideal S512x512 .f32) (v : Vec Ideal S1x512x128 .bf16) (mx : Vec Ideal S1x512x128 .f32) (a : Vec Ideal S1x512x256 .f32)
    (M : EReal) (r : Fin 512) (hM : ∀ l : Fin 128, newMax s mx (ix2 r l) = M) (l : Fin 128) :
    outAcc s v mx a (ix3 (0 : Fin 1) r ⟨l.val, by omega⟩)
      = Ideal.exp2 (mx (ix3 (0 : Fin 1) r l) - M) * a (ix3 (0 : Fin 1) r ⟨l.val, by omega⟩)
        + ∑ u : Fin 512, Ideal.exp2 (s (ix2 r u) - M) * v (ix3 (0 : Fin 1) u l) := by
  pointwise [outAcc, newAcc, quarter, hM]
  refine congrArg₂ (· + ·) rfl (Finset.sum_congr rfl fun x _ => ?_)
  exact congrArg (· * v (ix3 (0 : Fin 1) x l)) (quarters s M r x)

/-- The stored accumulator at a row and a lane of its second half: the weights. -/
theorem outAcc_den (s : FVec Ideal S512x512 .f32) (v : Vec Ideal S1x512x128 .bf16) (mx : Vec Ideal S1x512x128 .f32) (a : Vec Ideal S1x512x256 .f32)
    (M : EReal) (r : Fin 512) (hM : ∀ l : Fin 128, newMax s mx (ix2 r l) = M) (l : Fin 128) :
    outAcc s v mx a (ix3 (0 : Fin 1) r ⟨128 + l.val, by omega⟩)
      = Ideal.exp2 (mx (ix3 (0 : Fin 1) r l) - M) * a (ix3 (0 : Fin 1) r ⟨128 + l.val, by omega⟩)
        + ∑ u : Fin 512, Ideal.exp2 (s (ix2 r u) - M) := by
  pointwise [outAcc, newAcc, quarter, hM]
  refine congrArg₂ (· + ·) rfl (Finset.sum_congr rfl fun x _ => ?_)
  exact quarters s M r x

/-- The low half of a pair's queries. -/
theorem low_apply (q : Vec Ideal S1x512x128 .bf16) (r : Fin 512) (l : Fin 128) :
    k0_pay10 (F := Ideal) q (ix3 (0 : Fin 1) r l) = if l.val < 64 then q (ix3 (0 : Fin 1) r l) else 0 := by
  pointwise [k0_pay10, k0_pay8, k0_pay9]
  have h : ∀ l : Fin 128, (IntOp.cmpi CmpIPredicate.slt (BitVec.ofNat 32 l.val) 64#32 = 1) ↔ l.val < 64 := by decide +kernel
  unfold Scalar.select
  simp only [h l]

/-- The high half of a pair's queries. -/
theorem high_apply (q : Vec Ideal S1x512x128 .bf16) (r : Fin 512) (l : Fin 128) :
    k0_pay11 (F := Ideal) q (ix3 (0 : Fin 1) r l) = if l.val < 64 then 0 else q (ix3 (0 : Fin 1) r l) := by
  pointwise [k0_pay11, k0_pay8, k0_pay9]
  have h : ∀ l : Fin 128, (IntOp.cmpi CmpIPredicate.sge (BitVec.ofNat 32 l.val) 64#32 = 1) ↔ ¬ l.val < 64 := by decide +kernel
  unfold Scalar.select
  simp only [h l, ite_not]

/-- The weight of a pair's second head, from the four vectors of a layer. -/
def lam (lp : Vec Ideal S4x64 .f32) : EReal :=
  Ideal.exp (∑ x : Fin 64, lp (ix2 (0 : Fin 4) x) * lp (ix2 (1 : Fin 4) x)) - Ideal.exp (∑ x : Fin 64, lp (ix2 (2 : Fin 4) x) * lp (ix2 (3 : Fin 4) x))
    + Ideal.ofBits .f32 0x3EB60549#32

/-- A row `o` of 128 entries, divided by its root mean square and scaled, at its entry `l`. -/
def normed (o : Fin 128 → EReal) (g : EReal) (l : Fin 128) : EReal :=
  o l * Ideal.rsqrt (Ideal.div (∑ x : Fin 128, o x * o x) (Ideal.ofBits .f32 0x43000000#32) + Ideal.ofBits .f32 0x3727C5AC#32) * g
    * Ideal.ofBits .f32 0x3F24FD5C#32

/-- What a pair's result is of the accumulators of its two heads, the four vectors of lambda and the norm's weights. -/
def ended (a0 a1 : Vec Ideal S1x512x256 .f32) (lp : Vec Ideal S4x64 .f32) (g : Vec Ideal S1x128 .f32) : FVec Ideal S1x512x128 .bf16 :=
  k0_pay7 (F := Ideal) (k0_pay162 a0) (k0_pay163 a1) (k0_pay165 lp) (k0_pay166 lp) g

/-- It is the norm of the difference of the two heads. -/
theorem ended_apply (a0 a1 : Vec Ideal S1x512x256 .f32) (lp : Vec Ideal S4x64 .f32) (g : Vec Ideal S1x128 .f32) (r : Fin 512) (l : Fin 128) :
    ended a0 a1 lp g (ix3 (0 : Fin 1) r l)
      = normed (fun x => Ideal.div (a0 (ix3 (0 : Fin 1) r ⟨x.val, by omega⟩)) (a0 (ix3 (0 : Fin 1) r ⟨128 + x.val, by omega⟩))
        - lam lp * Ideal.div (a1 (ix3 (0 : Fin 1) r ⟨x.val, by omega⟩)) (a1 (ix3 (0 : Fin 1) r ⟨128 + x.val, by omega⟩)))
        (g (ix2 (0 : Fin 1) l)) l := by
  pointwise [ended, k0_pay7, k0_pay162, k0_pay163, k0_pay164, k0_pay165, k0_pay166, normed, lam]

/-- The fill of the running maximum, at a head, a row and a lane: below every number. -/
theorem fill_apply (h : Fin 8) (r : Fin 512) (l : Fin 128) : k0_pay1 (F := Ideal) k0_pay24 (ix3 h r l) = ⊥ := by
  pointwise [k0_pay1, k0_pay24]
  exact IdealRules.named_const.ideal_named_scalar _ _ _ _ rfl

/-- The fill of the accumulator: zero. -/
theorem zero_apply (h : Fin 8) (r : Fin 512) (l : Fin 256) : k0_pay2 (F := Ideal) (ix3 h r l) = 0 := by
  pointwise [k0_pay2]

/-- A row or a column of a tile has its index in the sequence. -/
theorem at_word (i : Fin 8) (r : Fin 512) :
    IntOp.addi (Scalar.muli (BitVec.ofNat 32 i.val) 512#32) (BitVec.ofNat 32 r.val) = BitVec.ofNat 32 (512 * i.val + r.val) := by
  apply BitVec.eq_of_toNat_eq
  simp only [IntOp.addi, Scalar.muli, IntOp.muli, BitVec.toNat_add, BitVec.toNat_mul, BitVec.toNat_ofNat]
  omega

/-- A position's chunk of 64 is its word shifted by six. -/
theorem chunk_word (n : ℕ) (h : n < 4096) : IntOp.shrsi .vector (BitVec.ofNat 32 n) 6#32 = BitVec.ofNat 32 (n / 64) := by
  have e : ∀ n : Fin 4096, IntOp.shrsi .vector (BitVec.ofNat 32 n.val) 6#32 = BitVec.ofNat 32 (n.val / 64) := by decide +kernel
  exact e ⟨n, h⟩

/-- The mask keeps the keys whose chunk is not after the query's. -/
theorem mask_apply (i j : Fin 8) (r u : Fin 512) :
    k0_pay25 (Scalar.muli (BitVec.ofNat 32 i.val) 512#32) (Scalar.muli (BitVec.ofNat 32 j.val) 512#32) (ix2 r u) = 1
      ↔ (512 * j.val + u.val) / 64 ≤ (512 * i.val + r.val) / 64 := by
  pointwise [k0_pay25]
  rw [at_word, at_word, chunk_word _ (by omega), chunk_word _ (by omega)]
  exact WordCmp.cmpi_sle_ofNat_eq_one_iff (by omega) (by omega)

/-- A masked score: the product where the mask keeps the key, below every number elsewhere. -/
theorem masked_apply (keep : IVec S512x512 1) (q k : Vec Ideal S1x512x128 .bf16) (r u : Fin 512) :
    masked keep q k (ix2 r u) = if keep (ix2 r u) = 1 then raw q k (ix2 r u) else ⊥ := by
  pointwise [masked]
  rw [show (Named.named (F := Ideal) κ "mask" (φ := .f32) 0xF149F2CA#32) = (⊥ : EReal) from IdealRules.named_const.ideal_named_scalar _ _ _ _ rfl]
  rfl

end Cert.KernelIdeal.Head
-- ==== Proof.Tiles.lean ====
/- A scratch of eight heads, and a block of four pairs of heads, cut into the parts the attention body loads and
   stores; and what a list of stores, one per part, leaves. -/
module

public import proofs.«01_k».proof.Proof.Head
public import Idealize.ShloMosaic.Lib.Pipeline.ValueKit
public import Idealize.ShloMosaic.Lib.Pipeline.ReadBack

@[expose] public section

set_option maxRecDepth 16384

noncomputable section

namespace Cert.KernelIdeal.Head

open Cert.KernelIdeal Cert.KernelIdeal.Gen Idealize.ShloMosaic

variable {e : EltTy} {n : ℕ}

theorem inb_head (h : Fin 8) : ∀ a : Fin 3, (![h.val, 0, 0] : Fin 3 → ℕ) a + (![1, 512, n] : Fin 3 → ℕ) a ≤ (![8, 512, n] : Fin 3 → ℕ) a := by
  intro a; fin_cases a
  · show h.val + 1 ≤ 8; omega
  · show 0 + 512 ≤ 512; omega
  · show 0 + n ≤ n; omega

theorem inb_pair (p : Fin 4) : ∀ a : Fin 3, (![0, 0, 128 * p.val] : Fin 3 → ℕ) a + (![1, 512, 128] : Fin 3 → ℕ) a ≤ (![1, 512, 512] : Fin 3 → ℕ) a := by
  intro a; fin_cases a
  · show 0 + 1 ≤ 1; omega
  · show 0 + 512 ≤ 512; omega
  · show 128 * p.val + 128 ≤ 512; omega

/-- The part of a scratch that is one head's. -/
def headOf (X : Vec Ideal ⟨3, ![8, 512, n]⟩ e) (h : Fin 8) : Vec Ideal ⟨3, ![1, 512, n]⟩ e :=
  View.ld X (Rect.unit ![h.val, 0, 0] ![1, 512, n] (inb_head h))

/-- The pair a head is of. -/
def pair (h : Fin 8) : Fin 4 := ⟨h.val / 2, by omega⟩

/-- The part of a block that is one pair's. -/
def pairOf (X : Vec Ideal S1x512x512 e) (p : Fin 4) : Vec Ideal S1x512x128 e :=
  View.ld X (Rect.unit ![0, 0, 128 * p.val] ![1, 512, 128] (inb_pair p))

/-- A scratch put together of its heads. -/
def tiles (f : Fin 8 → Vec Ideal ⟨3, ![1, 512, n]⟩ e) : Vec Ideal ⟨3, ![8, 512, n]⟩ e := fun i => f (i 0) (ix3 (0 : Fin 1) (i 1) (i 2))

/-- A block put together of its pairs. -/
def pairs (f : Fin 4 → Vec Ideal S1x512x128 e) : Vec Ideal S1x512x512 e :=
  fun i => f ⟨(i 2).val / 128, by have := (i 2).isLt; exact Nat.div_lt_of_lt_mul this⟩ (ix3 (0 : Fin 1) (i 1) ⟨(i 2).val % 128, Nat.mod_lt _ (by omega)⟩)

theorem headOf_apply (X : Vec Ideal ⟨3, ![8, 512, n]⟩ e) (h : Fin 8) (r : Fin 512) (l : Fin n) : headOf X h (ix3 (0 : Fin 1) r l) = X (ix3 h r l) := by
  refine congrArg X (funext fun a => Fin.ext ?_)
  fin_cases a
  · show h.val + 1 * 0 = h.val; omega
  · show 0 + 1 * r.val = r.val; omega
  · show 0 + 1 * l.val = l.val; omega

theorem pairOf_apply (X : Vec Ideal S1x512x512 e) (p : Fin 4) (r : Fin 512) (l : Fin 128) :
    pairOf X p (ix3 (0 : Fin 1) r l) = X (ix3 (0 : Fin 1) r ⟨128 * p.val + l.val, by omega⟩) := by
  refine congrArg X (funext fun a => Fin.ext ?_)
  fin_cases a
  · rfl
  · show 0 + 1 * r.val = r.val; omega
  · show 128 * p.val + 1 * l.val = 128 * p.val + l.val; omega

theorem tiles_apply (f : Fin 8 → Vec Ideal ⟨3, ![1, 512, n]⟩ e) (h : Fin 8) (r : Fin 512) (l : Fin n) :
    tiles f (ix3 h r l) = f h (ix3 (0 : Fin 1) r l) := rfl

theorem headOf_tiles (f : Fin 8 → Vec Ideal ⟨3, ![1, 512, n]⟩ e) (h : Fin 8) : headOf (tiles f) h = f h := by
  funext y
  obtain ⟨z, r, l, rfl⟩ : ∃ (z : Fin 1) (r : Fin 512) (l : Fin n), y = ix3 z r l := ⟨y 0, y 1, y 2, by funext a; fin_cases a <;> rfl⟩
  obtain rfl : z = 0 := Subsingleton.elim _ _
  rw [headOf_apply, tiles_apply]

/-- A store of one head of `tiles f` is a part of it. -/
theorem piece_head (f : Fin 8 → Vec Ideal ⟨3, ![1, 512, n]⟩ e) (h : Fin 8) (inb) (x : (Rect.unit (s := ⟨3, ![8, 512, n]⟩) ![h.val, 0, 0] ![1, 512, n] inb).shape.Idx) :
    f h x = tiles f ((Rect.unit (s := ⟨3, ![8, 512, n]⟩) ![h.val, 0, 0] ![1, 512, n] inb).emb x) :=
  (congrFun (headOf_tiles f h) x).symm

theorem mem_head (i : (⟨3, ![8, 512, n]⟩ : Shape).Idx) (h : Fin 8) (e : i 0 = h) (inb) :
    i ∈ (Rect.unit (s := ⟨3, ![8, 512, n]⟩) ![h.val, 0, 0] ![1, 512, n] inb).set := by
  refine Rect.mem_set_unit.mpr fun a => ?_
  have h1 := (i 1).isLt
  have h2 := (i 2).isLt
  fin_cases a
  · show h.val ≤ (i 0).val ∧ (i 0).val < h.val + 1; rw [e]; omega
  · exact ⟨Nat.zero_le _, by simpa using h1⟩
  · exact ⟨Nat.zero_le _, by simpa using h2⟩

/-- One store per head leaves the heads stored, whatever was stored before. -/
theorem canon_tiles8 (f : Fin 8 → Vec Ideal ⟨3, ![1, 512, n]⟩ e) (L : List (View.Piece (Elt Ideal) ⟨3, ![8, 512, n]⟩ e)) (i7 i6 i5 i4 i3 i2 i1 i0) :
    View.canon ((⟨Rect.unit ![7, 0, 0] ![1, 512, n] i7, f 7⟩ : View.Piece (Elt Ideal) ⟨3, ![8, 512, n]⟩ e)
      :: ⟨Rect.unit ![6, 0, 0] ![1, 512, n] i6, f 6⟩ :: ⟨Rect.unit ![5, 0, 0] ![1, 512, n] i5, f 5⟩ :: ⟨Rect.unit ![4, 0, 0] ![1, 512, n] i4, f 4⟩
      :: ⟨Rect.unit ![3, 0, 0] ![1, 512, n] i3, f 3⟩ :: ⟨Rect.unit ![2, 0, 0] ![1, 512, n] i2, f 2⟩ :: ⟨Rect.unit ![1, 0, 0] ![1, 512, n] i1, f 1⟩
      :: ⟨Rect.unit ![0, 0, 0] ![1, 512, n] i0, f 0⟩ :: L) = tiles f := by
  funext i
  refine View.canon_append_of_piecesOf (tiles f) L [⟨Rect.unit ![7, 0, 0] ![1, 512, n] i7, f 7⟩, ⟨Rect.unit ![6, 0, 0] ![1, 512, n] i6, f 6⟩,
    ⟨Rect.unit ![5, 0, 0] ![1, 512, n] i5, f 5⟩, ⟨Rect.unit ![4, 0, 0] ![1, 512, n] i4, f 4⟩, ⟨Rect.unit ![3, 0, 0] ![1, 512, n] i3, f 3⟩,
    ⟨Rect.unit ![2, 0, 0] ![1, 512, n] i2, f 2⟩, ⟨Rect.unit ![1, 0, 0] ![1, 512, n] i1, f 1⟩, ⟨Rect.unit ![0, 0, 0] ![1, 512, n] i0, f 0⟩]
    ⟨fun x => piece_head f 7 i7 x, fun x => piece_head f 6 i6 x, fun x => piece_head f 5 i5 x, fun x => piece_head f 4 i4 x, fun x => piece_head f 3 i3 x,
      fun x => piece_head f 2 i2 x, fun x => piece_head f 1 i1 x, fun x => piece_head f 0 i0 x, trivial⟩ i ?_
  have hc : ∀ h : Fin 8, i 0 = h → _ := fun h e => mem_head i h e (inb_head h)
  obtain ⟨k, hk⟩ : ∃ k : Fin 8, i 0 = k := ⟨_, rfl⟩
  fin_cases k
  · exact ⟨_, .tail _ (.tail _ (.tail _ (.tail _ (.tail _ (.tail _ (.tail _ (.head _))))))), hc 0 hk⟩
  · exact ⟨_, .tail _ (.tail _ (.tail _ (.tail _ (.tail _ (.tail _ (.head _)))))), hc 1 hk⟩
  · exact ⟨_, .tail _ (.tail _ (.tail _ (.tail _ (.tail _ (.head _))))), hc 2 hk⟩
  · exact ⟨_, .tail _ (.tail _ (.tail _ (.tail _ (.head _)))), hc 3 hk⟩
  · exact ⟨_, .tail _ (.tail _ (.tail _ (.head _))), hc 4 hk⟩
  · exact ⟨_, .tail _ (.tail _ (.head _)), hc 5 hk⟩
  · exact ⟨_, .tail _ (.head _), hc 6 hk⟩
  · exact ⟨_, .head _, hc 7 hk⟩

/-- The same with the stored values named apart. -/
theorem canon_heads (f : Fin 8 → Vec Ideal ⟨3, ![1, 512, n]⟩ e) (L : List (View.Piece (Elt Ideal) ⟨3, ![8, 512, n]⟩ e)) (i7 i6 i5 i4 i3 i2 i1 i0)
    {p7 p6 p5 p4 p3 p2 p1 p0 : Vec Ideal ⟨3, ![1, 512, n]⟩ e} (h7 : p7 = f 7) (h6 : p6 = f 6) (h5 : p5 = f 5) (h4 : p4 = f 4) (h3 : p3 = f 3) (h2 : p2 = f 2)
    (h1 : p1 = f 1) (h0 : p0 = f 0) :
    View.canon ((⟨Rect.unit ![7, 0, 0] ![1, 512, n] i7, p7⟩ : View.Piece (Elt Ideal) ⟨3, ![8, 512, n]⟩ e)
      :: ⟨Rect.unit ![6, 0, 0] ![1, 512, n] i6, p6⟩ :: ⟨Rect.unit ![5, 0, 0] ![1, 512, n] i5, p5⟩ :: ⟨Rect.unit ![4, 0, 0] ![1, 512, n] i4, p4⟩
      :: ⟨Rect.unit ![3, 0, 0] ![1, 512, n] i3, p3⟩ :: ⟨Rect.unit ![2, 0, 0] ![1, 512, n] i2, p2⟩ :: ⟨Rect.unit ![1, 0, 0] ![1, 512, n] i1, p1⟩
      :: ⟨Rect.unit ![0, 0, 0] ![1, 512, n] i0, p0⟩ :: L) = tiles f := by
  subst h7 h6 h5 h4 h3 h2 h1 h0
  exact canon_tiles8 f L i7 i6 i5 i4 i3 i2 i1 i0

/-- A load of a head's part, by the head's number. -/
theorem ld_head (X : Vec Ideal ⟨3, ![8, 512, n]⟩ e) :
    (∀ i, View.ld X (Rect.unit ![0, 0, 0] ![1, 512, n] i) = headOf X 0) ∧ (∀ i, View.ld X (Rect.unit ![1, 0, 0] ![1, 512, n] i) = headOf X 1)
    ∧ (∀ i, View.ld X (Rect.unit ![2, 0, 0] ![1, 512, n] i) = headOf X 2) ∧ (∀ i, View.ld X (Rect.unit ![3, 0, 0] ![1, 512, n] i) = headOf X 3)
    ∧ (∀ i, View.ld X (Rect.unit ![4, 0, 0] ![1, 512, n] i) = headOf X 4) ∧ (∀ i, View.ld X (Rect.unit ![5, 0, 0] ![1, 512, n] i) = headOf X 5)
    ∧ (∀ i, View.ld X (Rect.unit ![6, 0, 0] ![1, 512, n] i) = headOf X 6) ∧ (∀ i, View.ld X (Rect.unit ![7, 0, 0] ![1, 512, n] i) = headOf X 7) :=
  ⟨fun _ => rfl, fun _ => rfl, fun _ => rfl, fun _ => rfl, fun _ => rfl, fun _ => rfl, fun _ => rfl, fun _ => rfl⟩

/-- A load of a pair's part, by the pair's number. -/
theorem ld_pair (X : Vec Ideal S1x512x512 e) :
    (∀ i, View.ld X (Rect.unit ![0, 0, 0] ![1, 512, 128] i) = pairOf X 0) ∧ (∀ i, View.ld X (Rect.unit ![0, 0, 128] ![1, 512, 128] i) = pairOf X 1)
    ∧ (∀ i, View.ld X (Rect.unit ![0, 0, 256] ![1, 512, 128] i) = pairOf X 2) ∧ (∀ i, View.ld X (Rect.unit ![0, 0, 384] ![1, 512, 128] i) = pairOf X 3) :=
  ⟨fun _ => rfl, fun _ => rfl, fun _ => rfl, fun _ => rfl⟩

/-- A store of one pair of `pairs f` is a part of it. -/
theorem pairOf_pairs (f : Fin 4 → Vec Ideal S1x512x128 e) (p : Fin 4) : pairOf (pairs f) p = f p := by
  funext y
  obtain ⟨z, r, l, rfl⟩ : ∃ (z : Fin 1) (r : Fin 512) (l : Fin 128), y = ix3 z r l := ⟨y 0, y 1, y 2, by funext a; fin_cases a <;> rfl⟩
  obtain rfl : z = 0 := Subsingleton.elim _ _
  rw [pairOf_apply]
  show f ⟨(128 * p.val + l.val) / 128, _⟩ (ix3 (0 : Fin 1) r ⟨(128 * p.val + l.val) % 128, _⟩) = _
  have h1 : (128 * p.val + l.val) / 128 = p.val := by omega
  have h2 : (128 * p.val + l.val) % 128 = l.val := by omega
  simp only [h1, h2]

theorem piece_pair (f : Fin 4 → Vec Ideal S1x512x128 e) (p : Fin 4) (inb) (x : (Rect.unit (s := S1x512x512) ![0, 0, 128 * p.val] ![1, 512, 128] inb).shape.Idx) :
    f p x = pairs f ((Rect.unit (s := S1x512x512) ![0, 0, 128 * p.val] ![1, 512, 128] inb).emb x) :=
  (congrFun (pairOf_pairs f p) x).symm

theorem mem_pair (i : S1x512x512.Idx) (p : Fin 4) (e : (i 2).val / 128 = p.val) (inb) :
    i ∈ (Rect.unit (s := S1x512x512) ![0, 0, 128 * p.val] ![1, 512, 128] inb).set := by
  refine Rect.mem_set_unit.mpr fun a => ?_
  have h0 := (i 0).isLt
  have h1 := (i 1).isLt
  fin_cases a
  · exact ⟨Nat.zero_le _, by simpa using h0⟩
  · exact ⟨Nat.zero_le _, by simpa using h1⟩
  · show 128 * p.val ≤ (i 2).val ∧ (i 2).val < 128 * p.val + 128; omega

/-- One store per pair leaves the pairs stored. -/
theorem canon_pairs4 (f : Fin 4 → Vec Ideal S1x512x128 e) (i3 i2 i1 i0) :
    View.canon [(⟨Rect.unit ![0, 0, 384] ![1, 512, 128] i3, f 3⟩ : View.Piece (Elt Ideal) S1x512x512 e),
      ⟨Rect.unit ![0, 0, 256] ![1, 512, 128] i2, f 2⟩, ⟨Rect.unit ![0, 0, 128] ![1, 512, 128] i1, f 1⟩, ⟨Rect.unit ![0, 0, 0] ![1, 512, 128] i0, f 0⟩] = pairs f := by
  funext i
  refine View.canon_append_of_piecesOf (pairs f) [] [⟨Rect.unit ![0, 0, 384] ![1, 512, 128] i3, f 3⟩, ⟨Rect.unit ![0, 0, 256] ![1, 512, 128] i2, f 2⟩,
    ⟨Rect.unit ![0, 0, 128] ![1, 512, 128] i1, f 1⟩, ⟨Rect.unit ![0, 0, 0] ![1, 512, 128] i0, f 0⟩]
    ⟨fun x => piece_pair f 3 i3 x, fun x => piece_pair f 2 i2 x, fun x => piece_pair f 1 i1 x, fun x => piece_pair f 0 i0 x, trivial⟩ i ?_
  have hc : ∀ p : Fin 4, (i 2).val / 128 = p.val → _ := fun p e => mem_pair i p e (inb_pair p)
  obtain ⟨k, hk⟩ : ∃ k : Fin 4, (i 2).val / 128 = k.val := ⟨⟨(i 2).val / 128, Nat.div_lt_of_lt_mul (i 2).isLt⟩, rfl⟩
  fin_cases k
  · exact ⟨_, .tail _ (.tail _ (.tail _ (.head _))), hc 0 hk⟩
  · exact ⟨_, .tail _ (.tail _ (.head _)), hc 1 hk⟩
  · exact ⟨_, .tail _ (.head _), hc 2 hk⟩
  · exact ⟨_, .head _, hc 3 hk⟩

/-- The same with the stored values named apart. -/
theorem canon_pairs (f : Fin 4 → Vec Ideal S1x512x128 e) (i3 i2 i1 i0) {p3 p2 p1 p0 : Vec Ideal S1x512x128 e} (h3 : p3 = f 3) (h2 : p2 = f 2)
    (h1 : p1 = f 1) (h0 : p0 = f 0) :
    View.canon [(⟨Rect.unit ![0, 0, 384] ![1, 512, 128] i3, p3⟩ : View.Piece (Elt Ideal) S1x512x512 e),
      ⟨Rect.unit ![0, 0, 256] ![1, 512, 128] i2, p2⟩, ⟨Rect.unit ![0, 0, 128] ![1, 512, 128] i1, p1⟩, ⟨Rect.unit ![0, 0, 0] ![1, 512, 128] i0, p0⟩] = pairs f := by
  subst h3 h2 h1 h0
  exact canon_pairs4 f i3 i2 i1 i0

end Cert.KernelIdeal.Head
-- ==== Proof.Payloads.lean ====
/- The values the attention body stores, told as the functions of one head: each of the eight heads' in turn, on a
   masked tile and on a whole one; the eight heads' queries; the four pairs' results. -/
module

public import proofs.«01_k».proof.Proof.Head

@[expose] public section

set_option maxRecDepth 16384

noncomputable section

namespace Cert.KernelIdeal.Head

open Cert.KernelIdeal Cert.KernelIdeal.Gen Idealize.ShloMosaic

variable (w3 w4 : BitVec 32) (q k v : Vec Ideal S1x512x128 .bf16) (mx : Vec Ideal S1x512x128 .f32) (a : Vec Ideal S1x512x256 .f32)

/-- The maxima of a masked tile. -/
theorem masked_max :
    k0_pay4 (k0_pay80 (k0_pay71 (k0_pay25 w3 w4) (k0_pay62 k) q) mx) = outMax (masked (k0_pay25 w3 w4) q k) mx
    ∧ k0_pay78 (k0_pay74 (k0_pay64 (k0_pay25 w3 w4) k q) mx) = outMax (masked (k0_pay25 w3 w4) q k) mx
    ∧ k0_pay70 (k0_pay66 (k0_pay57 (k0_pay25 w3 w4) (k0_pay50 k) q) mx) = outMax (masked (k0_pay25 w3 w4) q k) mx
    ∧ k0_pay61 (k0_pay59 (k0_pay52 (k0_pay25 w3 w4) (k0_pay50 k) q) mx) = outMax (masked (k0_pay25 w3 w4) q k) mx
    ∧ k0_pay56 (k0_pay54 (k0_pay45 (k0_pay25 w3 w4) (k0_pay37 k) q) mx) = outMax (masked (k0_pay25 w3 w4) q k) mx
    ∧ k0_pay49 (k0_pay39 (k0_pay25 w3 w4) k q) mx = outMax (masked (k0_pay25 w3 w4) q k) mx
    ∧ k0_pay44 (k0_pay29 w3 w4 k q) mx = outMax (masked (k0_pay25 w3 w4) q k) mx
    ∧ k0_pay36 (k0_pay32 w3 w4 k q mx) = outMax (masked (k0_pay25 w3 w4) q k) mx :=
  ⟨rfl, rfl, rfl, rfl, rfl, rfl, rfl, rfl⟩

/-- The accumulators of a masked tile. -/
theorem masked_acc :
    k0_pay3 (k0_pay81 (k0_pay63 v) (k0_pay71 (k0_pay25 w3 w4) (k0_pay62 k) q) mx) (k0_pay82 (k0_pay71 (k0_pay25 w3 w4) (k0_pay62 k) q) mx) a = outAcc (masked (k0_pay25 w3 w4) q k) v mx a
    ∧ k0_pay77 (k0_pay72 (k0_pay63 v)) (k0_pay75 (k0_pay64 (k0_pay25 w3 w4) k q) mx) (k0_pay76 (k0_pay64 (k0_pay25 w3 w4) k q) mx) a = outAcc (masked (k0_pay25 w3 w4) q k) v mx a
    ∧ k0_pay69 (k0_pay67 (k0_pay51 v) (k0_pay57 (k0_pay25 w3 w4) (k0_pay50 k) q) mx) (k0_pay68 (k0_pay57 (k0_pay25 w3 w4) (k0_pay50 k) q) mx) a = outAcc (masked (k0_pay25 w3 w4) q k) v mx a
    ∧ k0_pay60 (k0_pay51 v) (k0_pay52 (k0_pay25 w3 w4) (k0_pay50 k) q) mx a = outAcc (masked (k0_pay25 w3 w4) q k) v mx a
    ∧ k0_pay55 (k0_pay38 v) (k0_pay45 (k0_pay25 w3 w4) (k0_pay37 k) q) mx a = outAcc (masked (k0_pay25 w3 w4) q k) v mx a
    ∧ k0_pay48 (k0_pay38 v) (k0_pay39 (k0_pay25 w3 w4) k q) (FloatOps.ofBits FTy.bf16 16256#16) mx a = outAcc (masked (k0_pay25 w3 w4) q k) v mx a
    ∧ k0_pay43 (k0_pay29 w3 w4 k q) (k0_pay40 (k0_pay27 v)) mx a = outAcc (masked (k0_pay25 w3 w4) q k) v mx a
    ∧ k0_pay35 (k0_pay28 w3 w4 k q) (k0_pay30 v) (k0_pay32 w3 w4 k q mx) (k0_pay33 w3 w4 k q mx) (k0_pay34 w3 w4 k q mx) a = outAcc (masked (k0_pay25 w3 w4) q k) v mx a :=
  ⟨rfl, rfl, rfl, rfl, rfl, rfl, rfl, rfl⟩

/-- The maxima of a whole tile. -/
theorem plain_max :
    k0_pay6 (k0_pay151 (k0_pay143 (k0_pay135 k) q) mx) = outMax (raw q k) mx
    ∧ k0_pay148 (k0_pay137 k q) mx = outMax (raw q k) mx
    ∧ k0_pay142 (k0_pay127 (k0_pay117 k) q) mx = outMax (raw q k) mx
    ∧ k0_pay134 (k0_pay130 (k0_pay119 k q) mx) = outMax (raw q k) mx
    ∧ k0_pay126 (k0_pay122 (k0_pay106 (k0_pay93 k) q) mx) = outMax (raw q k) mx
    ∧ k0_pay116 (k0_pay109 (k0_pay95 k q) mx) = outMax (raw q k) mx
    ∧ k0_pay105 (k0_pay98 (k0_pay86 k q) mx) = outMax (raw q k) mx
    ∧ k0_pay92 (k0_pay88 k q mx) = outMax (raw q k) mx :=
  ⟨rfl, rfl, rfl, rfl, rfl, rfl, rfl, rfl⟩

/-- The accumulators of a whole tile. -/
theorem plain_acc :
    k0_pay5 (k0_pay143 (k0_pay135 k) q) (k0_pay149 (k0_pay136 v)) (k0_pay150 mx) (k0_pay151 (k0_pay143 (k0_pay135 k) q) mx) a = outAcc (raw q k) v mx a
    ∧ k0_pay147 (k0_pay137 k q) (k0_pay144 (k0_pay136 v)) mx a = outAcc (raw q k) v mx a
    ∧ k0_pay141 (k0_pay127 (k0_pay117 k) q) (k0_pay138 (k0_pay118 v)) mx a = outAcc (raw q k) v mx a
    ∧ k0_pay133 (k0_pay119 k q) (k0_pay128 (k0_pay118 v)) (k0_pay130 (k0_pay119 k q) mx) (k0_pay131 (k0_pay119 k q) mx) (k0_pay132 (k0_pay119 k q)) a = outAcc (raw q k) v mx a
    ∧ k0_pay125 (k0_pay106 (k0_pay93 k) q) (k0_pay120 (k0_pay94 v)) (k0_pay122 (k0_pay106 (k0_pay93 k) q) mx) (k0_pay123 (k0_pay106 (k0_pay93 k) q) mx) (k0_pay124 (k0_pay106 (k0_pay93 k) q)) a = outAcc (raw q k) v mx a
    ∧ k0_pay115 (k0_pay107 (k0_pay94 v)) (k0_pay110 (k0_pay95 k q) mx) (k0_pay111 (k0_pay95 k q) mx) (k0_pay112 (k0_pay95 k q) mx) (k0_pay113 (k0_pay95 k q) mx) (k0_pay114 (k0_pay95 k q) mx) a = outAcc (raw q k) v mx a
    ∧ k0_pay104 (k0_pay96 (k0_pay84 v)) (k0_pay99 (k0_pay86 k q) mx) (k0_pay100 (k0_pay86 k q) mx) (k0_pay101 (k0_pay86 k q) mx) (k0_pay102 (k0_pay86 k q) mx) (k0_pay103 (k0_pay86 k q) mx) a = outAcc (raw q k) v mx a
    ∧ k0_pay91 (k0_pay89 k v q mx) (k0_pay90 k q mx) a = outAcc (raw q k) v mx a :=
  ⟨rfl, rfl, rfl, rfl, rfl, rfl, rfl, rfl⟩

/-- The low halves of the queries of the second, third and fourth pair, as of the first. -/
theorem low_eq : k0_pay14 (F := Ideal) q = k0_pay10 q ∧ k0_pay18 (F := Ideal) (iota Kind.tc S512x128 32 [1] iota_S512x128_d1_w32) q = k0_pay10 q
    ∧ k0_pay22 (F := Ideal) (iota Kind.tc S512x128 32 [1] iota_S512x128_d1_w32) q = k0_pay10 q := ⟨rfl, rfl, rfl⟩

/-- The high halves. -/
theorem high_eq : k0_pay15 (F := Ideal) q = k0_pay11 q ∧ k0_pay19 (F := Ideal) (iota Kind.tc S512x128 32 [1] iota_S512x128_d1_w32) q = k0_pay11 q
    ∧ k0_pay23 (F := Ideal) (iota Kind.tc S512x128 32 [1] iota_S512x128_d1_w32) q = k0_pay11 q := ⟨rfl, rfl, rfl⟩

variable (a0 a1 : Vec Ideal S1x512x256 .f32) (lp : Vec Ideal S4x64 .f32) (g : Vec Ideal S1x128 .f32)

/-- The four pairs' results. -/
theorem ended_eq :
    k0_pay7 (k0_pay162 a0) (k0_pay163 a1) (k0_pay165 lp) (k0_pay166 lp) g = ended a0 a1 lp g
    ∧ k0_pay161 (k0_pay158 lp) (k0_pay159 a0) (k0_pay160 a1) g = ended a0 a1 lp g
    ∧ k0_pay157 (k0_pay154 a0 a1 lp) (k0_pay155 g) (k0_pay156 a0 a1 lp) = ended a0 a1 lp g
    ∧ k0_pay153 (k0_pay152 a0 a1 lp g) = ended a0 a1 lp g :=
  ⟨rfl, rfl, rfl, rfl⟩

end Cert.KernelIdeal.Head
-- ==== Proof.States.lean ====
/- What a grid point leaves in the three scratches and in the result's block, in four cases: the first block of keys,
   a later block the queries may see, a block they may not see, and the last block of all. -/
module

public import proofs.«01_k».proof.Proof.Gen.KernelIdeal.Value
public import proofs.«01_k».proof.Proof.Tiles
public import proofs.«01_k».proof.Proof.Payloads

@[expose] public section

set_option maxRecDepth 16384

noncomputable section

namespace Cert.KernelIdeal.Head

open Cert.KernelIdeal Cert.KernelIdeal.Gen Idealize.ShloMosaic

/-- The queries a pair's scratch holds for one head: the pair's, zero outside the head's half of the lanes. -/
def queries (Q : Vec Ideal S1x512x512 .bf16) (h : Fin 8) : Vec Ideal S1x512x128 .bf16 :=
  if h.val % 2 = 0 then k0_pay10 (F := Ideal) (pairOf Q (pair h)) else k0_pay11 (F := Ideal) (pairOf Q (pair h))

/-- A pair's first head and its second. -/
def low (p : Fin 4) : Fin 8 := ⟨2 * p.val, by omega⟩
def high (p : Fin 4) : Fin 8 := ⟨2 * p.val + 1, by omega⟩

theorem heads_of_pair : low 0 = 0 ∧ high 0 = 1 ∧ low 1 = 2 ∧ high 1 = 3 ∧ low 2 = 4 ∧ high 2 = 5 ∧ low 3 = 6 ∧ high 3 = 7 := by decide

/-- The mask of a grid point. -/
def keepAt (t : Fin cfg0.N) : IVec S512x512 1 :=
  k0_pay25 (Scalar.muli (BitVec.ofNat 32 (grid0.coords t 2).val) 512#32) (Scalar.muli (BitVec.ofNat 32 (grid0.coords t 3).val) 512#32)

variable (m : (ℓ : Loc nD τ sig) → Buf (Elt Ideal) ℓ)

/-- What a grid point leaves: the queries, the running maxima and the accumulators of its eight heads, and the result's block. -/
abbrev stQ (c : Dev nD) (n : ℕ) (h : n < cfg0.N) : Vec Ideal S8x512x128 .bf16 := (outsAt0 m c n h).2.1
abbrev stM (c : Dev nD) (n : ℕ) (h : n < cfg0.N) : Vec Ideal S8x512x128 .f32 := (outsAt0 m c n h).2.2.1
abbrev stA (c : Dev nD) (n : ℕ) (h : n < cfg0.N) : Vec Ideal S8x512x256 .f32 := (outsAt0 m c n h).2.2.2
abbrev stO (c : Dev nD) (n : ℕ) (h : n < cfg0.N) : Vec Ideal S1x512x512 .bf16 := (outsAt0 m c n h).1

/-- The fills at the start of a run of points. -/
abbrev fillM : Vec Ideal S8x512x128 .f32 := k0_pay1 (F := Ideal) k0_pay24
abbrev fillA : Vec Ideal S8x512x256 .f32 := k0_pay2 (F := Ideal)

theorem pred_lt (t : Fin cfg0.N) : t.val - 1 < cfg0.N := Nat.lt_of_le_of_lt (Nat.sub_le _ _) t.isLt

variable (c : Dev nD) (t : Fin cfg0.N)

/-- The scores of a tile: masked where the block of keys is the queries' own. -/
def score (q k : Vec Ideal S1x512x128 .bf16) : FVec Ideal S512x512 .f32 :=
  if t.val / 8 % 8 = t.val % 8 then masked (keepAt t) q k else raw q k

/-! ## The first block of keys -/

theorem started_Q (h0 : t.val % 8 = 0) : (outsAt0 m c t.val t.isLt).2.1 = tiles fun h => queries (iblk m c 0 t) h := by
  have h3 : ¬t.val % 8 = 7 := by omega
  by_cases h1 : t.val / 8 % 8 = t.val % 8 <;>
    first
    | rw [outsAt0_A m c t h0 h1 (by omega) h3]
    | rw [outsAt0_D m c t h0 h1 (by omega) h3]
  all_goals
    frame_out
    simp only [low_eq, high_eq, ld_pair]
    exact canon_heads (e := .bf16) (n := 128) _ _ _ _ _ _ _ _ _ _ rfl rfl rfl rfl rfl rfl rfl rfl

theorem started_M (h0 : t.val % 8 = 0) :
    (outsAt0 m c t.val t.isLt).2.2.1 = tiles fun h => outMax (score t (queries (iblk m c 0 t) h) (pairOf (iblk m c 1 t) (pair h))) (headOf fillM h) := by
  have h3 : ¬t.val % 8 = 7 := by omega
  by_cases h1 : t.val / 8 % 8 = t.val % 8 <;> simp only [score, h1, if_true, if_false] <;>
    first
    | rw [outsAt0_A m c t h0 h1 (by omega) h3]
    | rw [outsAt0_D m c t h0 h1 (by omega) h3]
  all_goals
    frame_open
    simp (disch := decide) only [↓View.readCov_skip, ↓View.readCov_fill]
    frame_out
    simp only [View.readCov_cons_toLoadRect, low_eq, high_eq, masked_max, plain_max, ld_head, ld_pair]
    exact canon_heads (e := .f32) (n := 128) _ _ _ _ _ _ _ _ _ _ rfl rfl rfl rfl rfl rfl rfl rfl

theorem started_A (h0 : t.val % 8 = 0) :
    (outsAt0 m c t.val t.isLt).2.2.2 = tiles fun h => outAcc (score t (queries (iblk m c 0 t) h) (pairOf (iblk m c 1 t) (pair h)))
      (pairOf (iblk m c 2 t) (pair h)) (headOf fillM h) (headOf fillA h) := by
  have h3 : ¬t.val % 8 = 7 := by omega
  by_cases h1 : t.val / 8 % 8 = t.val % 8 <;> simp only [score, h1, if_true, if_false] <;>
    first
    | rw [outsAt0_A m c t h0 h1 (by omega) h3]
    | rw [outsAt0_D m c t h0 h1 (by omega) h3]
  all_goals
    frame_open
    simp (disch := decide) only [↓View.readCov_skip, ↓View.readCov_fill]
    frame_out
    simp only [View.readCov_cons_toLoadRect, low_eq, high_eq, masked_acc, plain_acc, ld_head, ld_pair]
    exact canon_heads (e := .f32) (n := 256) _ _ _ _ _ _ _ _ _ _ rfl rfl rfl rfl rfl rfl rfl rfl

/-! ## A later block, not after the queries' own -/

theorem carried_Q (h0 : ¬t.val % 8 = 0) : (outsAt0 m c t.val t.isLt).2.1 = stQ m c (t.val - 1) (pred_lt t) := by
  by_cases h1 : t.val / 8 % 8 = t.val % 8 <;> by_cases h3 : t.val % 8 = 7 <;> by_cases h2 : t.val % 8 + 1 ≤ t.val / 8 % 8 <;>
    first
    | omega
    | rw [outsAt0_B m c t h0 h1 h2 h3]; exact rfl
    | rw [outsAt0_C m c t h0 h1 h2 h3]; exact rfl
    | rw [outsAt0_E m c t h0 h1 h2 h3]; exact rfl
    | rw [outsAt0_F m c t h0 h1 h2 h3]; exact rfl
    | rw [outsAt0_G m c t h0 h1 h2 h3]; exact rfl

theorem carried_M (h0 : ¬t.val % 8 = 0) (hle : t.val % 8 ≤ t.val / 8 % 8) :
    (outsAt0 m c t.val t.isLt).2.2.1 = tiles fun h => outMax (score t (headOf (stQ m c (t.val - 1) (pred_lt t)) h) (pairOf (iblk m c 1 t) (pair h)))
      (headOf (stM m c (t.val - 1) (pred_lt t)) h) := by
  by_cases h1 : t.val / 8 % 8 = t.val % 8 <;> by_cases h3 : t.val % 8 = 7 <;> simp only [score, h1, if_true, if_false] <;>
    first
    | omega
    | rw [outsAt0_E m c t h0 h1 (by omega) h3]
    | rw [outsAt0_F m c t h0 h1 (by omega) h3]
    | rw [outsAt0_G m c t h0 h1 (by omega) h3]
  all_goals
    frame_out
    simp only [read_unread_whole, masked_max, plain_max, ld_head, ld_pair]
    exact canon_heads (e := .f32) (n := 128) _ _ _ _ _ _ _ _ _ _ rfl rfl rfl rfl rfl rfl rfl rfl

theorem carried_A (h0 : ¬t.val % 8 = 0) (hle : t.val % 8 ≤ t.val / 8 % 8) :
    (outsAt0 m c t.val t.isLt).2.2.2 = tiles fun h => outAcc (score t (headOf (stQ m c (t.val - 1) (pred_lt t)) h) (pairOf (iblk m c 1 t) (pair h)))
      (pairOf (iblk m c 2 t) (pair h)) (headOf (stM m c (t.val - 1) (pred_lt t)) h) (headOf (stA m c (t.val - 1) (pred_lt t)) h) := by
  by_cases h1 : t.val / 8 % 8 = t.val % 8 <;> by_cases h3 : t.val % 8 = 7 <;> simp only [score, h1, if_true, if_false] <;>
    first
    | omega
    | rw [outsAt0_E m c t h0 h1 (by omega) h3]
    | rw [outsAt0_F m c t h0 h1 (by omega) h3]
    | rw [outsAt0_G m c t h0 h1 (by omega) h3]
  all_goals
    frame_out
    simp only [read_unread_whole, masked_acc, plain_acc, ld_head, ld_pair]
    exact canon_heads (e := .f32) (n := 256) _ _ _ _ _ _ _ _ _ _ rfl rfl rfl rfl rfl rfl rfl rfl

/-! ## A block after the queries' own -/

theorem idle_MA (h0 : t.val / 8 % 8 < t.val % 8) :
    (outsAt0 m c t.val t.isLt).2.2 = (stM m c (t.val - 1) (pred_lt t), stA m c (t.val - 1) (pred_lt t)) := by
  by_cases h3 : t.val % 8 = 7 <;>
    first
    | rw [outsAt0_B m c t (by omega) (by omega) (by omega) h3]; exact rfl
    | rw [outsAt0_C m c t (by omega) (by omega) (by omega) h3]; exact rfl

/-! ## The last block -/

/-- The result's block, from the accumulators the last point leaves. -/
theorem ended_O (h3 : t.val % 8 = 7) :
    (outsAt0 m c t.val t.isLt).1 = pairs fun p => ended (headOf (stA m c t.val t.isLt) (low p)) (headOf (stA m c t.val t.isLt) (high p)) (iblk m c 3 t) (iblk m c 4 t) := by
  by_cases h1 : t.val / 8 % 8 = t.val % 8
  · rw [show stA m c t.val t.isLt = _ from carried_A m c t (by omega) (by omega), outsAt0_G m c t (by omega) h1 (by omega) h3]
    frame_open
    simp (disch := decide) only [↓View.readCov_skip]
    frame_out
    simp only [View.readCov_cons_toLoadRect, read_unread_whole, masked_acc, ended_eq, ld_head, ld_pair]
    refine canon_pairs (e := .bf16) _ _ _ _ _ ?_ ?_ ?_ ?_ <;>
      simp only [headOf_tiles, heads_of_pair, score, h1, if_true] <;> rfl
  · rw [show stA m c t.val t.isLt = _ from congrArg Prod.snd (idle_MA m c t (by omega)), outsAt0_C m c t (by omega) h1 (by omega) h3]
    frame_out
    simp only [read_unread_whole, ended_eq, ld_head]
    exact canon_pairs (e := .bf16) _ _ _ _ _ rfl rfl rfl rfl

end Cert.KernelIdeal.Head
-- ==== Proof.Row.lean ====
/- One row of one head through the blocks of keys. After any number of blocks the running maximum is some real `M`
   and the accumulator is the sum of the weights `2 ^ score`, each times its value, scaled by `2 ^ (-M)`; which `M` it is
   does not matter to the quotient of two such sums. -/
module

public import proofs.«01_k».proof.Proof.Head

@[expose] public section

noncomputable section

namespace Cert.KernelIdeal.Head

open Cert.KernelIdeal Cert.KernelIdeal.Gen Idealize.ShloMosaic

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The weight of a key: two to its score where the query may see it, nothing elsewhere. -/
def weight (A : Prop) [Decidable A] (σ : ℝ) : ℝ := if A then (2 : ℝ) ^ σ else 0

/-- A row that has seen no block. -/
def RowNew (mx : Fin 128 → EReal) (a : Fin 256 → EReal) : Prop := (∀ l, mx l = ⊥) ∧ ∀ e, a e = 0

/-- A row whose weighted values sum to `T` and whose weights sum to `D`. -/
def RowAt (mx : Fin 128 → EReal) (a : Fin 256 → EReal) (T : Fin 128 → ℝ) (D : ℝ) : Prop :=
  ∃ M : ℝ, (∀ l, mx l = (M : EReal)) ∧ (∀ l : Fin 128, a ⟨l.val, by omega⟩ = (((2 : ℝ) ^ (-M) * T l : ℝ) : EReal))
    ∧ ∀ l : Fin 128, a ⟨128 + l.val, by omega⟩ = (((2 : ℝ) ^ (-M) * D : ℝ) : EReal)

/-- The greatest of a maximum and some scores is a real, if some score is. -/
theorem greatest_real {ι : Type} [Fintype ι] (X : EReal) (hX : X = ⊥ ∨ ∃ M : ℝ, X = (M : EReal)) (s : ι → EReal) (A : ι → Prop) [DecidablePred A] (σ : ι → ℝ)
    (hs : ∀ u, s u = if A u then (σ u : EReal) else ⊥) (hA : ∃ u, A u) : ∃ M : ℝ, max X (Finset.univ.sup s) = (M : EReal) := by
  obtain ⟨u, hu⟩ := hA
  have h1 : max X (Finset.univ.sup s) ≠ ⊤ := by
    refine ne_of_lt (max_lt ?_ ((Finset.sup_lt_iff bot_lt_top).mpr fun v _ => ?_))
    · rcases hX with rfl | ⟨M, rfl⟩
      · exact bot_lt_top
      · exact EReal.coe_lt_top M
    · rw [hs v]; split_ifs
      · exact EReal.coe_lt_top _
      · exact bot_lt_top
  have h2 : max X (Finset.univ.sup s) ≠ ⊥ := by
    have h : s u ≤ max X (Finset.univ.sup s) := le_trans (Finset.le_sup (Finset.mem_univ u)) (le_max_right _ _)
    rw [hs u, if_pos hu] at h
    exact ne_of_gt (lt_of_lt_of_le (EReal.bot_lt_coe _) h)
  exact ⟨_, (EReal.coe_toReal h1 h2).symm⟩

/-- Two to a difference. -/
theorem exp2_sub (x M : ℝ) : Ideal.exp2 ((x : EReal) - (M : EReal)) = (((2 : ℝ) ^ (-M) * (2 : ℝ) ^ x : ℝ) : EReal) := by
  rw [← EReal.coe_sub, Ideal.exp2_coe, Real.rpow_eq_pow, ← Real.rpow_add two_pos, neg_add_eq_sub]

/-- A key's weight, against the maximum `M`. -/
theorem exp2_score (A : Prop) [Decidable A] (σ M : ℝ) :
    Ideal.exp2 ((if A then (σ : EReal) else ⊥) - (M : EReal)) = (((2 : ℝ) ^ (-M) * weight A σ : ℝ) : EReal) := by
  unfold weight
  split_ifs
  · exact exp2_sub σ M
  · rw [EReal.bot_sub, Ideal.exp2_bot]; simp

/-- A block more. -/
theorem step (s : FVec Ideal S512x512 .f32) (v : Vec Ideal S1x512x128 .bf16) (mx : Vec Ideal S1x512x128 .f32) (a : Vec Ideal S1x512x256 .f32) (r : Fin 512)
    (T : Fin 128 → ℝ) (D : ℝ) (A : Fin 512 → Prop) [DecidablePred A] (σ : Fin 512 → ℝ) (x : Fin 512 → Fin 128 → ℝ)
    (hrow : (RowNew (fun l => mx (ix3 (0 : Fin 1) r l)) (fun e => a (ix3 (0 : Fin 1) r e)) ∧ (∀ l, T l = 0) ∧ D = 0)
      ∨ RowAt (fun l => mx (ix3 (0 : Fin 1) r l)) (fun e => a (ix3 (0 : Fin 1) r e)) T D)
    (hs : ∀ u, s (ix2 r u) = if A u then (σ u : EReal) else ⊥) (hA : ∃ u, A u) (hv : ∀ u l, v (ix3 (0 : Fin 1) u l) = (x u l : EReal)) :
    RowAt (fun l => outMax s mx (ix3 (0 : Fin 1) r l)) (fun e => outAcc s v mx a (ix3 (0 : Fin 1) r e))
      (fun l => T l + ∑ u, weight (A u) (σ u) * x u l) (D + ∑ u, weight (A u) (σ u)) := by
  obtain ⟨X, hX, hXr, hold⟩ : ∃ X : EReal, (∀ l, mx (ix3 (0 : Fin 1) r l) = X) ∧ (X = ⊥ ∨ ∃ M : ℝ, X = (M : EReal)) ∧ ∀ M : ℝ,
      (∀ l : Fin 128, Ideal.exp2 (X - (M : EReal)) * a (ix3 (0 : Fin 1) r ⟨l.val, by omega⟩) = (((2 : ℝ) ^ (-M) * T l : ℝ) : EReal))
      ∧ ∀ l : Fin 128, Ideal.exp2 (X - (M : EReal)) * a (ix3 (0 : Fin 1) r ⟨128 + l.val, by omega⟩) = (((2 : ℝ) ^ (-M) * D : ℝ) : EReal) := by
    rcases hrow with ⟨⟨h1, h2⟩, hT, hD⟩ | ⟨N, h1, h2, h3⟩ <;> beta_reduce at h1 h2
    · refine ⟨⊥, h1, .inl rfl, fun M => ⟨fun l => ?_, fun l => ?_⟩⟩
      · rw [h2, mul_zero, hT, mul_zero, EReal.coe_zero]
      · rw [h2, mul_zero, hD, mul_zero, EReal.coe_zero]
    · beta_reduce at h3
      have e : ∀ M y : ℝ, (2 : ℝ) ^ (-M) * (2 : ℝ) ^ N * ((2 : ℝ) ^ (-N) * y) = (2 : ℝ) ^ (-M) * y := by
        intro M y
        have : (2 : ℝ) ^ N * (2 : ℝ) ^ (-N) = 1 := by rw [← Real.rpow_add two_pos, add_neg_cancel, Real.rpow_zero]
        linear_combination (2 : ℝ) ^ (-M) * y * this
      refine ⟨N, h1, .inr ⟨N, rfl⟩, fun M => ⟨fun l => ?_, fun l => ?_⟩⟩
      · rw [h2, exp2_sub, ← EReal.coe_mul, e]
      · rw [h3, exp2_sub, ← EReal.coe_mul, e]
  obtain ⟨M, hM⟩ := greatest_real X hXr (fun u => s (ix2 r u)) A σ hs hA
  have hN : ∀ l : Fin 128, newMax s mx (ix2 r l) = (M : EReal) := fun l => by rw [newMax_apply, hX l, hM]
  refine ⟨M, fun l => ?_, fun l => ?_, fun l => ?_⟩
  · show outMax s mx (ix3 (0 : Fin 1) r l) = _
    rw [outMax_apply, hN]
  · show outAcc s v mx a (ix3 (0 : Fin 1) r ⟨l.val, _⟩) = _
    rw [outAcc_num s v mx a M r hN l, hX, (hold M).1 l, mul_add, Finset.mul_sum, EReal.coe_add, coe_sum]
    refine congrArg₂ (· + ·) rfl (Finset.sum_congr rfl fun u _ => ?_)
    rw [hs u, exp2_score, hv, ← EReal.coe_mul, mul_assoc]
  · show outAcc s v mx a (ix3 (0 : Fin 1) r ⟨128 + l.val, _⟩) = _
    rw [outAcc_den s v mx a M r hN l, hX, (hold M).2 l, mul_add, Finset.mul_sum, EReal.coe_add, coe_sum]
    refine congrArg₂ (· + ·) rfl (Finset.sum_congr rfl fun u _ => ?_)
    rw [hs u, exp2_score]

/-- The quotient of the two sums. -/
theorem RowAt.quotient {mx : Fin 128 → EReal} {a : Fin 256 → EReal} {T : Fin 128 → ℝ} {D : ℝ} (h : RowAt mx a T D) (hD : D ≠ 0) (l : Fin 128) :
    Ideal.div (a ⟨l.val, by omega⟩) (a ⟨128 + l.val, by omega⟩) = ((T l / D : ℝ) : EReal) := by
  obtain ⟨M, _, h2, h3⟩ := h
  have hp : (2 : ℝ) ^ (-M) ≠ 0 := ne_of_gt (Real.rpow_pos_of_pos two_pos _)
  rw [h2, h3, Ideal.div_coe (mul_ne_zero hp hD), ← EReal.coe_mul]
  congr 1
  field_simp

end Cert.KernelIdeal.Head
-- ==== Proof.Keys.lean ====
/- The sums over the keys of a head, as reals. The three inputs are given by batch, position and column, so that a block's
   entry is one of them at a sum of indices. -/
module

public import proofs.«01_k».proof.Proof.Row

@[expose] public section

noncomputable section

namespace Cert.KernelIdeal.Head

open Cert.KernelIdeal Cert.KernelIdeal.Gen Idealize.ShloMosaic

/-- Three arrays of reals, by batch, position and column. -/
structure Inputs where
  q : ℕ → ℕ → ℕ → ℝ
  k : ℕ → ℕ → ℕ → ℝ
  v : ℕ → ℕ → ℕ → ℝ

/-- A query against a key: the product over the 64 columns of a head, which begin at `C`. -/
def Inputs.dot (X : Inputs) (b C n u : ℕ) : ℝ := ∑ l : Fin 64, X.q b n (C + l.val) * X.k b u (C + l.val)

/-- What key `u` weighs for query `n`: nothing, if its chunk of 64 is after the query's. -/
def Inputs.wt (X : Inputs) (b C n u : ℕ) : ℝ := weight (u / 64 ≤ n / 64) (X.dot b C n u)

/-- The weights of the first `N` keys, and the same times a column of the values. -/
def Inputs.den (X : Inputs) (b C n N : ℕ) : ℝ := ∑ u ∈ Finset.range N, X.wt b C n u
def Inputs.num (X : Inputs) (b C E n N : ℕ) : ℝ := ∑ u ∈ Finset.range N, X.wt b C n u * X.v b u E

/-- A block of 512 keys more. -/
theorem Inputs.den_add (X : Inputs) (b C n j : ℕ) : X.den b C n (512 * j) + ∑ u : Fin 512, X.wt b C n (512 * j + u.val) = X.den b C n (512 * (j + 1)) := by
  unfold Inputs.den
  rw [mul_add, mul_one, Finset.sum_range_add, Finset.sum_range (fun x => X.wt b C n (512 * j + x))]

theorem Inputs.num_add (X : Inputs) (b C E n j : ℕ) :
    X.num b C E n (512 * j) + ∑ u : Fin 512, X.wt b C n (512 * j + u.val) * X.v b (512 * j + u.val) E = X.num b C E n (512 * (j + 1)) := by
  unfold Inputs.num
  rw [mul_add, mul_one, Finset.sum_range_add, Finset.sum_range (fun x => X.wt b C n (512 * j + x) * X.v b (512 * j + x) E)]

/-- The keys after a query's own block of 512 weigh nothing. -/
theorem Inputs.wt_after (X : Inputs) (b C i r u : ℕ) (hr : r < 512) (hu : 512 * (i + 1) ≤ u) : X.wt b C (512 * i + r) u = 0 := by
  unfold Inputs.wt weight
  rw [if_neg (by omega)]

theorem Inputs.den_all (X : Inputs) (b C i r : ℕ) (hi : i < 8) (hr : r < 512) : X.den b C (512 * i + r) (512 * (i + 1)) = X.den b C (512 * i + r) 4096 := by
  unfold Inputs.den
  refine Finset.sum_subset (Finset.range_subset_range.mpr (by omega)) fun u _ hu => X.wt_after b C i r u hr (by simpa using hu)

theorem Inputs.num_all (X : Inputs) (b C E i r : ℕ) (hi : i < 8) (hr : r < 512) : X.num b C E (512 * i + r) (512 * (i + 1)) = X.num b C E (512 * i + r) 4096 := by
  unfold Inputs.num
  refine Finset.sum_subset (Finset.range_subset_range.mpr (by omega)) fun u _ hu => by
    rw [X.wt_after b C i r u hr (by simpa using hu), zero_mul]

/-- A query weighs itself, so the weights sum to more than nothing. -/
theorem Inputs.den_pos (X : Inputs) (b C n : ℕ) (hn : n < 4096) : 0 < X.den b C n 4096 := by
  have h0 : ∀ u ∈ Finset.range 4096, 0 ≤ X.wt b C n u := fun u _ => by
    unfold Inputs.wt weight; split_ifs
    · exact (Real.rpow_pos_of_pos two_pos _).le
    · exact le_rfl
  refine lt_of_lt_of_le ?_ (Finset.single_le_sum h0 (Finset.mem_range.mpr hn))
  unfold Inputs.wt weight
  rw [if_pos le_rfl]
  exact Real.rpow_pos_of_pos two_pos _

/-- A pair's result before its norm: its first head's quotient less `L` times its second's. `P` is the pair's first column. -/
def Inputs.out (X : Inputs) (L : ℝ) (b n P e : ℕ) : ℝ :=
  X.num b P (P + e) n 4096 / X.den b P n 4096 - L * (X.num b (P + 64) (P + e) n 4096 / X.den b (P + 64) n 4096)

/-- The real arrays' queries scaled by one eighth over the logarithm of two. -/
def scaled (A B C : ℕ → ℕ → ℕ → ℝ) : Inputs := ⟨fun b n d => A b n d * (1 / 8 / Real.log 2), B, C⟩

end Cert.KernelIdeal.Head
-- ==== Proof.Rows.lean ====
/- The rows of a head's state at each grid point: the sums over the keys met so far. -/
module

public import proofs.«01_k».proof.Proof.States
public import proofs.«01_k».proof.Proof.Keys

@[expose] public section

set_option maxRecDepth 16384

noncomputable section

namespace Cert.KernelIdeal.Head

open Cert.KernelIdeal Cert.KernelIdeal.Gen Idealize.ShloMosaic

/-- Where the coordinates of a grid point are. -/
theorem coord_q : ∀ t : Fin cfg0.N, (grid0.coords t 2).val = t.val / 8 % 8 := by decide +kernel
theorem coord_k : ∀ t : Fin cfg0.N, (grid0.coords t 3).val = t.val % 8 := by decide +kernel

variable (m : (ℓ : Loc nD τ sig) → Buf (Elt Ideal) ℓ) (c : Dev nD) (X : Inputs)

/-- The blocks of a grid point hold the inputs: queries at its block of queries; keys and values at its block of keys,
    where the queries may see it. -/
def Holds (t : Fin cfg0.N) : Prop :=
  (∀ r d : Fin 512, iblk m c 0 t (ix3 (0 : Fin 1) r d) = (X.q (t.val / 128) (512 * (t.val / 8 % 8) + r.val) (512 * (t.val / 64 % 2) + d.val) : EReal))
  ∧ (t.val % 8 ≤ t.val / 8 % 8 → ∀ u d : Fin 512,
      iblk m c 1 t (ix3 (0 : Fin 1) u d) = (X.k (t.val / 128) (512 * (t.val % 8) + u.val) (512 * (t.val / 64 % 2) + d.val) : EReal)
      ∧ iblk m c 2 t (ix3 (0 : Fin 1) u d) = (X.v (t.val / 128) (512 * (t.val % 8) + u.val) (512 * (t.val / 64 % 2) + d.val) : EReal))

variable {m c X}

/-- The product of a head's queries and its pair's keys is the product over the head's columns. -/
theorem raw_queries (t : Fin cfg0.N) (H : Holds m c X t) (hle : t.val % 8 ≤ t.val / 8 % 8) (h : Fin 8) (r u : Fin 512) :
    raw (queries (iblk m c 0 t) h) (pairOf (iblk m c 1 t) (pair h)) (ix2 r u)
      = (X.dot (t.val / 128) (512 * (t.val / 64 % 2) + 64 * h.val) (512 * (t.val / 8 % 8) + r.val) (512 * (t.val % 8) + u.val) : EReal) := by
  have hk := fun d => (H.2 hle u d).1
  rw [raw_apply, Inputs.dot, coe_sum]
  simp only [pairOf_apply, hk]
  rw [show (∑ l : Fin 128, queries (iblk m c 0 t) h (ix3 (0 : Fin 1) r l) * ((X.k (t.val / 128) (512 * (t.val % 8) + u.val) (512 * (t.val / 64 % 2) + (128 * (pair h).val + l.val)) : ℝ) : EReal))
    = ∑ l : Fin (64 + 64), queries (iblk m c 0 t) h (ix3 (0 : Fin 1) r l) * ((X.k (t.val / 128) (512 * (t.val % 8) + u.val) (512 * (t.val / 64 % 2) + (128 * (pair h).val + l.val)) : ℝ) : EReal) from rfl,
    Fin.sum_univ_add]
  unfold queries
  have hp : (pair h).val = h.val / 2 := rfl
  by_cases h2 : h.val % 2 = 0
  · simp only [h2, if_true, low_apply, pairOf_apply, H.1]
    refine (congrArg₂ (· + ·) rfl (Finset.sum_eq_zero fun i _ => ?_)).trans ((add_zero _).trans ?_)
    · rw [if_neg (by show ¬(64 + i.val < 64); omega), zero_mul]
    · refine Finset.sum_congr rfl fun l _ => ?_
      rw [if_pos (by show l.val < 64; omega), ← EReal.coe_mul]
      have e : 512 * (t.val / 64 % 2) + (128 * (pair h).val + (Fin.castAdd 64 l).val) = 512 * (t.val / 64 % 2) + 64 * h.val + l.val := by
        show 512 * (t.val / 64 % 2) + (128 * (pair h).val + l.val) = _; omega
      rw [e]
  · simp only [h2, if_false, high_apply, pairOf_apply, H.1]
    refine (congrArg₂ (· + ·) (Finset.sum_eq_zero fun i _ => ?_) rfl).trans ((zero_add _).trans ?_)
    · rw [if_pos (by show i.val < 64; omega), zero_mul]
    · refine Finset.sum_congr rfl fun l _ => ?_
      rw [if_neg (by show ¬(64 + l.val < 64); omega), ← EReal.coe_mul]
      have e : 512 * (t.val / 64 % 2) + (128 * (pair h).val + (Fin.natAdd 64 l).val) = 512 * (t.val / 64 % 2) + 64 * h.val + l.val := by
        show 512 * (t.val / 64 % 2) + (128 * (pair h).val + (64 + l.val)) = _; omega
      rw [e]

/-- A tile's score: the product, for the keys whose chunk is not after the query's. -/
theorem score_queries (t : Fin cfg0.N) (H : Holds m c X t) (hle : t.val % 8 ≤ t.val / 8 % 8) (h : Fin 8) (r u : Fin 512) :
    score t (queries (iblk m c 0 t) h) (pairOf (iblk m c 1 t) (pair h)) (ix2 r u)
      = if (512 * (t.val % 8) + u.val) / 64 ≤ (512 * (t.val / 8 % 8) + r.val) / 64 then
          (X.dot (t.val / 128) (512 * (t.val / 64 % 2) + 64 * h.val) (512 * (t.val / 8 % 8) + r.val) (512 * (t.val % 8) + u.val) : EReal) else ⊥ := by
  unfold score
  split_ifs with h1 h2 h2
  · rw [masked_apply, if_pos, raw_queries t H hle]
    unfold keepAt
    exact (mask_apply (grid0.coords t 2) (grid0.coords t 3) r u).mpr (by rw [coord_q, coord_k]; exact h2)
  · rw [masked_apply, if_neg]
    unfold keepAt
    exact fun e => h2 (by have := (mask_apply (grid0.coords t 2) (grid0.coords t 3) r u).mp e; rwa [coord_q, coord_k] at this)
  · exact raw_queries t H hle h r u
  · exact absurd (by omega) h2

/-- A block of keys more, at a grid point that the queries may see. -/
theorem row_step (t : Fin cfg0.N) (H : Holds m c X t) (hle : t.val % 8 ≤ t.val / 8 % 8) (h : Fin 8) (r : Fin 512)
    (mx : Vec Ideal S1x512x128 .f32) (a : Vec Ideal S1x512x256 .f32)
    (hrow : (RowNew (fun l => mx (ix3 (0 : Fin 1) r l)) (fun e => a (ix3 (0 : Fin 1) r e)) ∧ t.val % 8 = 0)
      ∨ RowAt (fun l => mx (ix3 (0 : Fin 1) r l)) (fun e => a (ix3 (0 : Fin 1) r e))
        (fun l => X.num (t.val / 128) (512 * (t.val / 64 % 2) + 64 * h.val) (512 * (t.val / 64 % 2) + 128 * (h.val / 2) + l.val) (512 * (t.val / 8 % 8) + r.val) (512 * (t.val % 8)))
        (X.den (t.val / 128) (512 * (t.val / 64 % 2) + 64 * h.val) (512 * (t.val / 8 % 8) + r.val) (512 * (t.val % 8)))) :
    RowAt (fun l => outMax (score t (queries (iblk m c 0 t) h) (pairOf (iblk m c 1 t) (pair h))) mx (ix3 (0 : Fin 1) r l))
      (fun e => outAcc (score t (queries (iblk m c 0 t) h) (pairOf (iblk m c 1 t) (pair h))) (pairOf (iblk m c 2 t) (pair h)) mx a (ix3 (0 : Fin 1) r e))
      (fun l => X.num (t.val / 128) (512 * (t.val / 64 % 2) + 64 * h.val) (512 * (t.val / 64 % 2) + 128 * (h.val / 2) + l.val) (512 * (t.val / 8 % 8) + r.val) (512 * (t.val % 8 + 1)))
      (X.den (t.val / 128) (512 * (t.val / 64 % 2) + 64 * h.val) (512 * (t.val / 8 % 8) + r.val) (512 * (t.val % 8 + 1))) := by
  have key := step (score t (queries (iblk m c 0 t) h) (pairOf (iblk m c 1 t) (pair h))) (pairOf (iblk m c 2 t) (pair h)) mx a r
    (fun l => X.num (t.val / 128) (512 * (t.val / 64 % 2) + 64 * h.val) (512 * (t.val / 64 % 2) + 128 * (h.val / 2) + l.val) (512 * (t.val / 8 % 8) + r.val) (512 * (t.val % 8)))
    (X.den (t.val / 128) (512 * (t.val / 64 % 2) + 64 * h.val) (512 * (t.val / 8 % 8) + r.val) (512 * (t.val % 8)))
    (fun u => (512 * (t.val % 8) + u.val) / 64 ≤ (512 * (t.val / 8 % 8) + r.val) / 64)
    (fun u => X.dot (t.val / 128) (512 * (t.val / 64 % 2) + 64 * h.val) (512 * (t.val / 8 % 8) + r.val) (512 * (t.val % 8) + u.val))
    (fun u l => X.v (t.val / 128) (512 * (t.val % 8) + u.val) (512 * (t.val / 64 % 2) + 128 * (h.val / 2) + l.val))
    ?_ (fun u => score_queries t H hle h r u) ?_ ?_
  · simp only [← Inputs.num_add, ← Inputs.den_add]
    exact key
  · rcases hrow with ⟨h1, h2⟩ | h1
    · refine .inl ⟨h1, fun l => ?_, ?_⟩
      · rw [h2]; simp [Inputs.num]
      · rw [h2]; simp [Inputs.den]
    · exact .inr h1
  · exact ⟨r, by omega⟩
  · intro u l
    rw [pairOf_apply, (H.2 hle u _).2]
    rw [show 512 * (t.val / 64 % 2) + (128 * (pair h).val + l.val) = 512 * (t.val / 64 % 2) + 128 * (h.val / 2) + l.val from (Nat.add_assoc _ _ _).symm]

end Cert.KernelIdeal.Head
-- ==== Proof.Invariant.lean ====
/- The rows of every head after each grid point, and the result's block at the last block of keys. -/
module

public import proofs.«01_k».proof.Proof.Rows

@[expose] public section

set_option maxRecDepth 16384

noncomputable section

namespace Cert.KernelIdeal.Head

open Cert.KernelIdeal Cert.KernelIdeal.Gen Idealize.ShloMosaic

variable {m : (ℓ : Loc nD τ sig) → Buf (Elt Ideal) ℓ} {c : Dev nD} {X : Inputs}

/-- Every row of every head holds the sums over the first `N` keys, at the pair of heads `w`, the batch `b` and the block of queries `i`. -/
def RowsAt (X : Inputs) (b w i N : ℕ) (M : Vec Ideal S8x512x128 .f32) (A : Vec Ideal S8x512x256 .f32) : Prop :=
  ∀ (h : Fin 8) (r : Fin 512), RowAt (fun l => headOf M h (ix3 (0 : Fin 1) r l)) (fun e => headOf A h (ix3 (0 : Fin 1) r e))
    (fun l => X.num b (512 * w + 64 * h.val) (512 * w + 128 * (h.val / 2) + l.val) (512 * i + r.val) N)
    (X.den b (512 * w + 64 * h.val) (512 * i + r.val) N)

/-- A run of points reads one block of queries. -/
theorem same_queries (H : ∀ t, Holds m c X t) (t : Fin cfg0.N) (h0 : ¬t.val % 8 = 0) :
    iblk m c 0 ⟨t.val - 1, pred_lt t⟩ = iblk m c 0 t := by
  have e1 : (t.val - 1) / 8 = t.val / 8 := by omega
  have e2 : (t.val - 1) / 64 = t.val / 64 := by omega
  have e3 : (t.val - 1) / 128 = t.val / 128 := by omega
  have hs := (H ⟨t.val - 1, pred_lt t⟩).1
  simp only [e1, e2, e3] at hs
  refine funext fun (y : S1x512x512.Idx) => ?_
  have hy : y = ix3 (0 : Fin 1) (y 1) (y 2) := by
    funext a; fin_cases a
    · exact Subsingleton.elim (α := Fin 1) _ _
    · rfl
    · rfl
  rw [hy]
  exact (hs _ _).trans ((H t).1 _ _).symm

/-- After each grid point: the queries of its block, and the sums over the keys met. -/
theorem invariant (H : ∀ t, Holds m c X t) : ∀ (n : ℕ) (hn : n < cfg0.N),
    stQ m c n hn = tiles (fun h => queries (iblk m c 0 ⟨n, hn⟩) h)
    ∧ RowsAt X (n / 128) (n / 64 % 2) (n / 8 % 8) (512 * (min (n % 8) (n / 8 % 8) + 1)) (stM m c n hn) (stA m c n hn) := by
  intro n
  induction n with
  | zero =>
    intro hn
    refine ⟨started_Q m c ⟨0, hn⟩ rfl, fun h r => ?_⟩
    rw [show stM m c 0 hn = _ from started_M m c ⟨0, hn⟩ rfl, show stA m c 0 hn = _ from started_A m c ⟨0, hn⟩ rfl]
    simp only [headOf_tiles]
    exact row_step ⟨0, hn⟩ (H _) (Nat.zero_le _) h r _ _ (.inl ⟨⟨fun l => (headOf_apply _ _ _ _).trans (fill_apply _ _ _), fun e => (headOf_apply _ _ _ _).trans (zero_apply _ _ _)⟩, rfl⟩)
  | succ n ih =>
    intro hn
    by_cases h0 : (n + 1) % 8 = 0
    · refine ⟨started_Q m c ⟨n + 1, hn⟩ h0, fun h r => ?_⟩
      rw [show stM m c (n + 1) hn = _ from started_M m c ⟨n + 1, hn⟩ h0, show stA m c (n + 1) hn = _ from started_A m c ⟨n + 1, hn⟩ h0]
      simp only [headOf_tiles]
      rw [show min ((n + 1) % 8) ((n + 1) / 8 % 8) = (n + 1) % 8 by omega]
      exact row_step ⟨n + 1, hn⟩ (H _) (by show (n + 1) % 8 ≤ _; omega) h r _ _ (.inl ⟨⟨fun l => (headOf_apply _ _ _ _).trans (fill_apply _ _ _), fun e => (headOf_apply _ _ _ _).trans (zero_apply _ _ _)⟩, h0⟩)
    · obtain ⟨hQ, hR⟩ := ih (Nat.lt_of_succ_lt hn)
      have e1 : n / 8 = (n + 1) / 8 := by omega
      have e2 : n / 64 = (n + 1) / 64 := by omega
      have e3 : n / 128 = (n + 1) / 128 := by omega
      rw [e1, e2, e3] at hR
      have hQ' : stQ m c n (Nat.lt_of_succ_lt hn) = tiles (fun h => queries (iblk m c 0 ⟨n + 1, hn⟩) h) := by
        rw [hQ]; exact congrArg (fun Q => tiles fun h => queries Q h) (same_queries H ⟨n + 1, hn⟩ h0)
      refine ⟨(carried_Q m c ⟨n + 1, hn⟩ h0).trans hQ', ?_⟩
      by_cases hle : (n + 1) % 8 ≤ (n + 1) / 8 % 8
      · intro h r
        have hM : stM m c (n + 1) hn = tiles fun h => outMax (score ⟨n + 1, hn⟩ (headOf (stQ m c n (Nat.lt_of_succ_lt hn)) h) (pairOf (iblk m c 1 ⟨n + 1, hn⟩) (pair h)))
            (headOf (stM m c n (Nat.lt_of_succ_lt hn)) h) := carried_M m c ⟨n + 1, hn⟩ h0 hle
        have hA : stA m c (n + 1) hn = tiles fun h => outAcc (score ⟨n + 1, hn⟩ (headOf (stQ m c n (Nat.lt_of_succ_lt hn)) h) (pairOf (iblk m c 1 ⟨n + 1, hn⟩) (pair h)))
            (pairOf (iblk m c 2 ⟨n + 1, hn⟩) (pair h)) (headOf (stM m c n (Nat.lt_of_succ_lt hn)) h) (headOf (stA m c n (Nat.lt_of_succ_lt hn)) h) :=
          carried_A m c ⟨n + 1, hn⟩ h0 hle
        rw [hM, hA, hQ']
        simp only [headOf_tiles]
        rw [show min ((n + 1) % 8) ((n + 1) / 8 % 8) = (n + 1) % 8 by omega]
        rw [show min (n % 8) ((n + 1) / 8 % 8) + 1 = (n + 1) % 8 by omega] at hR
        exact row_step ⟨n + 1, hn⟩ (H _) hle h r _ _ (.inr (hR h r))
      · have e := idle_MA m c ⟨n + 1, hn⟩ (Nat.lt_of_not_le hle)
        rw [show stM m c (n + 1) hn = stM m c n _ from congrArg Prod.fst e, show stA m c (n + 1) hn = stA m c n _ from congrArg Prod.snd e,
          show min ((n + 1) % 8) ((n + 1) / 8 % 8) = min (n % 8) ((n + 1) / 8 % 8) by omega]
        exact hR

/-- The quotient of a head at its last block of keys: over all the keys. -/
theorem quotient_last (H : ∀ t, Holds m c X t) (t : Fin cfg0.N) (h7 : t.val % 8 = 7) (h : Fin 8) (r : Fin 512) (l : Fin 128) :
    Ideal.div (headOf (stA m c t.val t.isLt) h (ix3 (0 : Fin 1) r ⟨l.val, by omega⟩)) (headOf (stA m c t.val t.isLt) h (ix3 (0 : Fin 1) r ⟨128 + l.val, by omega⟩))
      = ((X.num (t.val / 128) (512 * (t.val / 64 % 2) + 64 * h.val) (512 * (t.val / 64 % 2) + 128 * (h.val / 2) + l.val) (512 * (t.val / 8 % 8) + r.val) 4096
          / X.den (t.val / 128) (512 * (t.val / 64 % 2) + 64 * h.val) (512 * (t.val / 8 % 8) + r.val) 4096 : ℝ) : EReal) := by
  have hR := (invariant H t.val t.isLt).2 h r
  rw [show min (t.val % 8) (t.val / 8 % 8) = t.val / 8 % 8 by omega] at hR
  simp only [Inputs.num_all _ _ _ _ _ _ (show t.val / 8 % 8 < 8 by omega) r.isLt, Inputs.den_all _ _ _ _ _ (show t.val / 8 % 8 < 8 by omega) r.isLt] at hR
  exact hR.quotient (Inputs.den_pos X _ _ _ (by omega)).ne' l

/-- The result's block at the last block of keys. -/
theorem block_last (H : ∀ t, Holds m c X t) (t : Fin cfg0.N) (h7 : t.val % 8 = 7) (L : ℝ) (hL : lam (iblk m c 3 t) = (L : EReal)) (r : Fin 512) (p : Fin 4) (l : Fin 128) :
    (outsAt0 m c t.val t.isLt).1 (ix3 (0 : Fin 1) r ⟨128 * p.val + l.val, by omega⟩)
      = normed (fun e => (X.out L (t.val / 128) (512 * (t.val / 8 % 8) + r.val) (512 * (t.val / 64 % 2) + 128 * p.val) e.val : EReal)) (iblk m c 4 t (ix2 (0 : Fin 1) l)) l := by
  rw [ended_O m c t h7]
  refine (pairOf_apply (pairs _) p r l).symm.trans ?_
  rw [pairOf_pairs, ended_apply, hL]
  simp only [quotient_last H t h7]
  rw [show (low p).val = 2 * p.val from rfl, show (high p).val = 2 * p.val + 1 from rfl,
    show 64 * (2 * p.val) = 128 * p.val by omega, show 64 * (2 * p.val + 1) = 128 * p.val + 64 by omega,
    show 2 * p.val / 2 = p.val by omega, show (2 * p.val + 1) / 2 = p.val by omega]
  simp only [Inputs.out, ← EReal.coe_mul, ← EReal.coe_sub, Nat.add_assoc]

end Cert.KernelIdeal.Head
-- ==== Proof.HostOps.lean ====
/- What the host hands to the kernel, and the blocks a grid point reads of it: the queries scaled, the keys, the values,
   the four vectors of lambda and the norm's weights. -/
module

public import proofs.«01_k».proof.Proof.Invariant
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe

/-- The real numbers in an array, at natural coordinates. -/
def reals (x : S4x4096x1024.Idx → EReal) (b n e : ℕ) : ℝ :=
  if h : b < 4 ∧ n < 4096 ∧ e < 1024 then (x (ix3 (⟨b, h.1⟩ : Fin 4) (⟨n, h.2.1⟩ : Fin 4096) (⟨e, h.2.2⟩ : Fin 1024))).toReal else 0

theorem reals_eq (x : S4x4096x1024.Idx → EReal) (hx : ∀ i, ∃ y : ℝ, x i = (y : EReal)) (b : Fin 4) (n : Fin 4096) (e : Fin 1024) :
    x (ix3 b n e) = (reals x b.val n.val e.val : EReal) := by
  obtain ⟨y, hy⟩ := hx (ix3 b n e)
  rw [reals, dif_pos ⟨b.isLt, n.isLt, e.isLt⟩]
  show x (ix3 b n e) = ((x (ix3 b n e)).toReal : EReal)
  rw [hy, EReal.toReal_coe]

/-- Which block each window reads. -/
theorem index_q : ∀ t : Fin cfg0.N, win0_0.index t 0 = t.val / 128 ∧ win0_0.index t 1 = t.val / 8 % 8 ∧ win0_0.index t 2 = t.val / 64 % 2 := by decide +kernel
theorem index_k : ∀ t : Fin cfg0.N, win0_1.index t 0 = t.val / 128 ∧ (t.val % 8 ≤ t.val / 8 % 8 → win0_1.index t 1 = t.val % 8) ∧ win0_1.index t 2 = t.val / 64 % 2 := by decide +kernel
theorem index_v : ∀ t : Fin cfg0.N, win0_2.index t 0 = t.val / 128 ∧ (t.val % 8 ≤ t.val / 8 % 8 → win0_2.index t 1 = t.val % 8) ∧ win0_2.index t 2 = t.val / 64 % 2 := by decide +kernel
theorem index_lam : ∀ t : Fin cfg0.N, win0_3.index t 0 = 0 ∧ win0_3.index t 1 = 0 := by decide +kernel
theorem index_g : ∀ t : Fin cfg0.N, win0_4.index t 0 = 0 ∧ win0_4.index t 1 = 0 := by decide +kernel
theorem index_o : ∀ t : Fin cfg0.N, win0_5.index t 0 = t.val / 128 ∧ win0_5.index t 1 = t.val / 8 % 8 ∧ win0_5.index t 2 = t.val / 64 % 2 := by decide +kernel

variable (m : (ℓ : Loc nD τ sig) → Buf (Elt Ideal) ℓ) (c : Dev nD)

/-- The arguments: queries, keys, values, the four vectors of lambda, the norm's weights. -/
abbrev argQ : FVec Ideal S4x4096x1024 .f32 := m ((c : Thread nD τ).loc main_arg0)
abbrev argK : FVec Ideal S4x4096x1024 .f32 := m ((c : Thread nD τ).loc main_arg1)
abbrev argV : FVec Ideal S4x4096x1024 .f32 := m ((c : Thread nD τ).loc main_arg2)
abbrev argA : FVec Ideal S64 .f32 := m ((c : Thread nD τ).loc main_arg3)
abbrev argB : FVec Ideal S64 .f32 := m ((c : Thread nD τ).loc main_arg4)
abbrev argC : FVec Ideal S64 .f32 := m ((c : Thread nD τ).loc main_arg5)
abbrev argD : FVec Ideal S64 .f32 := m ((c : Thread nD τ).loc main_arg6)
abbrev argG : FVec Ideal S128 .f32 := m ((c : Thread nD τ).loc main_arg7)

/-- The scale of the queries: an eighth over the logarithm of two. -/
theorem scale : Ideal.div (Ideal.ofBits .f32 0x3E000000#32) (Ideal.log (Ideal.ofBits .f32 0x40000000#32)) = ((1 / 8 / Real.log 2 : ℝ) : EReal) := by
  have e2 : Ideal.ofBits .f32 0x40000000#32 = ((2 : ℝ) : EReal) := by simp [Ideal.ofBits, Ideal.ieee, -EReal.coe_mul]; norm_num
  have e8 : Ideal.ofBits .f32 0x3E000000#32 = ((1 / 8 : ℝ) : EReal) := by simp [Ideal.ofBits, Ideal.ieee, -EReal.coe_mul]; norm_num
  have hl : Real.log 2 ≠ 0 := (Real.log_pos one_lt_two).ne'
  rw [e2, e8, show Ideal.log ((2 : ℝ) : EReal) = ((Real.log 2 : ℝ) : EReal) from if_neg (by norm_num), Ideal.div_coe hl, ← EReal.coe_mul, mul_one_div]

/-- The queries the kernel is handed. -/
theorem host_q (i : S4x4096x1024.Idx) : (V m c main_v9 : FVec Ideal S4x4096x1024 .bf16) i = argQ m c i * ((1 / 8 / Real.log 2 : ℝ) : EReal) := by
  have e : (V m c main_v9 : FVec Ideal S4x4096x1024 .bf16) = truncf .bf16 (mulf (argQ m c) (broadcastInDim S4x4096x1024 ![] bcast_S_S4x4096x1024
      (Host.divf (constant (F := Ideal) S_ .f32 0x3E000000#32) (Host.log (constant (F := Ideal) S_ .f32 0x40000000#32))))) bitsLt_bf16_f32 := by
    show StableHlo.after hostOps0 _ _ = _
    after_results
    try rfl
  rw [e, ← scale]
  rfl

theorem host_k : (V m c main_v10 : FVec Ideal S4x4096x1024 .bf16) = argK m c := by
  have e : (V m c main_v10 : FVec Ideal S4x4096x1024 .bf16) = truncf .bf16 (argK m c) bitsLt_bf16_f32 := by
    show StableHlo.after hostOps0 _ _ = _
    after_results
    try rfl
  rw [e]; rfl

theorem host_v : (V m c main_v11 : FVec Ideal S4x4096x1024 .bf16) = argV m c := by
  have e : (V m c main_v11 : FVec Ideal S4x4096x1024 .bf16) = truncf .bf16 (argV m c) bitsLt_bf16_f32 := by
    show StableHlo.after hostOps0 _ _ = _
    after_results
    try rfl
  rw [e]; rfl

theorem host_g (l : Fin 128) : (V m c main_v12 : FVec Ideal S1x128 .f32) (ix2 (0 : Fin 1) l) = argG m c (ix1 l) := by
  have e : (V m c main_v12 : FVec Ideal S1x128 .f32) = shapeCast S1x128 (argG m c) shapeCasts_S128_S1x128 := by
    show StableHlo.after hostOps0 _ _ = _
    after_results
    try rfl
  rw [e]
  pointwise

theorem host_lam (x : Fin 64) :
    (V m c main_v4 : FVec Ideal S4x64 .f32) (ix2 (0 : Fin 4) x) = argA m c (ix1 x) ∧ (V m c main_v4 : FVec Ideal S4x64 .f32) (ix2 (1 : Fin 4) x) = argB m c (ix1 x)
    ∧ (V m c main_v4 : FVec Ideal S4x64 .f32) (ix2 (2 : Fin 4) x) = argC m c (ix1 x) ∧ (V m c main_v4 : FVec Ideal S4x64 .f32) (ix2 (3 : Fin 4) x) = argD m c (ix1 x) := by
  have e : (V m c main_v4 : FVec Ideal S4x64 .f32) = concatenate S4x64 0 [⟨S1x64, broadcastInDim S1x64 ![1] bcast_S64_S1x64_1 (argA m c)⟩,
      ⟨S1x64, broadcastInDim S1x64 ![1] bcast_S64_S1x64_1 (argB m c)⟩, ⟨S1x64, broadcastInDim S1x64 ![1] bcast_S64_S1x64_1 (argC m c)⟩,
      ⟨S1x64, broadcastInDim S1x64 ![1] bcast_S64_S1x64_1 (argD m c)⟩] concatenates_S1x64_S1x64_S1x64_S1x64_S4x64_d0 := by
    show StableHlo.after hostOps0 _ _ = _
    after_results
    try rfl
  rw [e]
  refine ⟨?_, ?_, ?_, ?_⟩ <;> pointwise

theorem batch_lt (t : Fin cfg0.N) : t.val / 128 < 4 := by have h : t.val < 512 := t.isLt; omega

theorem read_q (t : Fin cfg0.N) (r d : Fin 512) : iblk m c 0 t (ix3 (0 : Fin 1) r d)
    = V m c main_v9 (ix3 (⟨t.val / 128, batch_lt t⟩ : Fin 4) (⟨512 * (t.val / 8 % 8) + r.val, by omega⟩ : Fin 4096) (⟨512 * (t.val / 64 % 2) + d.val, by omega⟩ : Fin 1024)) := by
  obtain ⟨i0, i1, i2⟩ := index_q t
  blk_ext [iblk, i0, i1, i2]

theorem read_k (t : Fin cfg0.N) (hle : t.val % 8 ≤ t.val / 8 % 8) (u d : Fin 512) : iblk m c 1 t (ix3 (0 : Fin 1) u d)
    = V m c main_v10 (ix3 (⟨t.val / 128, batch_lt t⟩ : Fin 4) (⟨512 * (t.val % 8) + u.val, by omega⟩ : Fin 4096) (⟨512 * (t.val / 64 % 2) + d.val, by omega⟩ : Fin 1024)) := by
  obtain ⟨i0, i1, i2⟩ := index_k t
  replace i1 := i1 hle
  blk_ext [iblk, i0, i1, i2]

theorem read_v (t : Fin cfg0.N) (hle : t.val % 8 ≤ t.val / 8 % 8) (u d : Fin 512) : iblk m c 2 t (ix3 (0 : Fin 1) u d)
    = V m c main_v11 (ix3 (⟨t.val / 128, batch_lt t⟩ : Fin 4) (⟨512 * (t.val % 8) + u.val, by omega⟩ : Fin 4096) (⟨512 * (t.val / 64 % 2) + d.val, by omega⟩ : Fin 1024)) := by
  obtain ⟨i0, i1, i2⟩ := index_v t
  replace i1 := i1 hle
  blk_ext [iblk, i0, i1, i2]

theorem read_lam (t : Fin cfg0.N) (j : Fin 4) (x : Fin 64) : iblk m c 3 t (ix2 j x) = V m c main_v4 (ix2 j x) := by
  obtain ⟨i0, i1⟩ := index_lam t
  blk_ext [iblk, i0, i1]

theorem read_g (t : Fin cfg0.N) (l : Fin 128) : iblk m c 4 t (ix2 (0 : Fin 1) l) = V m c main_v12 (ix2 (0 : Fin 1) l) := by
  obtain ⟨i0, i1⟩ := index_g t
  blk_ext [iblk, i0, i1]

/-- What the kernel computes with, if the queries, the keys and the values are real. -/
abbrev inputs : Inputs := scaled (reals (argQ m c)) (reals (argK m c)) (reals (argV m c))

theorem holds (hq : ∀ i, ∃ y : ℝ, argQ m c i = (y : EReal)) (hk : ∀ i, ∃ y : ℝ, argK m c i = (y : EReal)) (hv : ∀ i, ∃ y : ℝ, argV m c i = (y : EReal))
    (t : Fin cfg0.N) : Holds m c (inputs m c) t := by
  refine ⟨fun r d => ?_, fun hle u d => ⟨?_, ?_⟩⟩
  · refine (read_q m c t r d).trans ((host_q m c _).trans ?_)
    rw [reals_eq _ hq, ← EReal.coe_mul]
    rfl
  · refine (read_k m c t hle u d).trans ((congrFun (host_k m c) _).trans ?_)
    rw [reals_eq _ hk]
    rfl
  · refine (read_v m c t hle u d).trans ((congrFun (host_v m c) _).trans ?_)
    rw [reals_eq _ hv]
    rfl

/-- Lambda, from the four vectors. -/
def lambda : EReal :=
  Ideal.exp (∑ x : Fin 64, argA m c (ix1 x) * argB m c (ix1 x)) - Ideal.exp (∑ x : Fin 64, argC m c (ix1 x) * argD m c (ix1 x)) + Ideal.ofBits .f32 0x3EB60549#32

theorem lam_eq (t : Fin cfg0.N) : lam (iblk m c 3 t) = lambda m c := by
  have h0 : ∀ x, iblk m c 3 t (ix2 (0 : Fin 4) x) = argA m c (ix1 x) := fun x => (read_lam m c t 0 x).trans (host_lam m c x).1
  have h1 : ∀ x, iblk m c 3 t (ix2 (1 : Fin 4) x) = argB m c (ix1 x) := fun x => (read_lam m c t 1 x).trans (host_lam m c x).2.1
  have h2 : ∀ x, iblk m c 3 t (ix2 (2 : Fin 4) x) = argC m c (ix1 x) := fun x => (read_lam m c t 2 x).trans (host_lam m c x).2.2.1
  have h3 : ∀ x, iblk m c 3 t (ix2 (3 : Fin 4) x) = argD m c (ix1 x) := fun x => (read_lam m c t 3 x).trans (host_lam m c x).2.2.2
  simp only [lam, lambda, h0, h1, h2, h3]

/-- It is real, if the four vectors are. -/
theorem lambda_real (ha : ∀ i, ∃ y : ℝ, argA m c i = (y : EReal)) (hb : ∀ i, ∃ y : ℝ, argB m c i = (y : EReal)) (hc : ∀ i, ∃ y : ℝ, argC m c i = (y : EReal))
    (hd : ∀ i, ∃ y : ℝ, argD m c i = (y : EReal)) : ∃ L : ℝ, lambda m c = (L : EReal) := by
  choose fa ea using ha
  choose fb eb using hb
  choose fc ec using hc
  choose fd ed using hd
  obtain ⟨z, hz⟩ : ∃ z : ℝ, Ideal.ofBits .f32 0x3EB60549#32 = (z : EReal) := ⟨_, by simp [Ideal.ofBits, Ideal.ieee, -EReal.coe_mul]; rfl⟩
  refine ⟨Real.exp (∑ x : Fin 64, fa (ix1 x) * fb (ix1 x)) - Real.exp (∑ x : Fin 64, fc (ix1 x) * fd (ix1 x)) + z, ?_⟩
  simp only [lambda, ea, eb, ec, ed, hz, ← EReal.coe_mul, ← coe_sum, Ideal.exp_coe, ← EReal.coe_sub, ← EReal.coe_add]

end Cert.KernelIdeal.Head
-- ==== Proof.Reference.lean ====
/- The reference, entry by entry, on inputs that are real: the softmax of a query's products is its keys' weights over their
   sum, whatever the maximum that was taken off. -/
module

public import proofs.«01_k».proof.Proof.Gen.ReferenceIdeal.Read
public import proofs.«01_k».proof.Proof.Keys

@[expose] public section

set_option maxRecDepth 16384

noncomputable section

namespace Cert.ReferenceIdeal.Rows

open Cert.ReferenceIdeal Cert.ReferenceIdeal.Gen Cert.ReferenceIdeal.Read Idealize.ShloMosaic
open Cert.KernelIdeal.Head (Inputs weight coe_sum greatest_real normed scaled)

/-- The sign of a word. -/
def sign (x : BitVec 32) : BitVec 32 := if x = 0 then 0 else if x.msb then -1 else 1

/-- A position's chunk. -/
theorem chunk (i : S4096.Idx) : val_main_v12 (F := Ideal) i = BitVec.ofNat 32 ((i 0).val / 64) := by
  have e : ∀ n : Fin 4096,
      Scalar.select (IntOp.andi (IntOp.cmpi .ne (sign (BitVec.ofNat 32 n.val)) (sign 64#32)) (IntOp.cmpi .ne (IntOp.remsi .host (BitVec.ofNat 32 n.val) 64#32) 0#32))
        (IntOp.subi (IntOp.divsi .host (BitVec.ofNat 32 n.val) 64#32) 1#32) (IntOp.divsi .host (BitVec.ofNat 32 n.val) 64#32) = BitVec.ofNat 32 (n.val / 64) := by decide +kernel
  exact e (i 0)

/-- The mask: the keys whose chunk is not after the query's. -/
theorem mask (i : S4096x4096.Idx) : val_main_v20 (F := Ideal) i = 1 ↔ (i 1).val / 64 ≤ (i 0).val / 64 := by
  have h0 : (i 0).val < 4096 := (i 0).isLt
  have h1 : (i 1).val < 4096 := (i 1).isLt
  rw [val_main_v20_apply, val_main_v18_apply, val_main_v19_apply, val_main_v16_apply, val_main_v17_apply, chunk, chunk]
  exact WordCmp.cmpi_sle_ofNat_eq_one_iff (a := (i 1).val / 64) (b := (i 0).val / 64) (by omega) (by omega)

theorem eighth : Ideal.ofBits .f32 0x3E000000#32 = ((1 / 8 : ℝ) : EReal) := by
  simp [Ideal.ofBits, Ideal.ieee, -EReal.coe_mul]; norm_num

theorem below : Ideal.ofBits .f32 0xFF800000#32 = ⊥ := by simp [Ideal.ofBits, Ideal.ieee]

variable {A B C : ℕ → ℕ → ℕ → ℝ} {x0 x1 x2 : (⟨S4x4096x1024, .f32⟩ : BufTy).Contents (Elt Ideal)} {x3 x4 x5 x6 : (⟨S64, .f32⟩ : BufTy).Contents (Elt Ideal)}
variable (h0 : ∀ i, x0 i = (A (i 0).val (i 1).val (i 2).val : EReal)) (h1 : ∀ i, x1 i = (B (i 0).val (i 1).val (i 2).val : EReal))
variable (h2 : ∀ i, x2 i = (C (i 0).val (i 1).val (i 2).val : EReal))

/-- A logit of the softmax. -/
def logit (A B : ℕ → ℕ → ℕ → ℝ) (b h n u : ℕ) : ℝ := (∑ l : Fin 64, A b n (64 * h + l.val) * B b u (64 * h + l.val)) * (1 / 8)

/-- Its exponential is the weight of the key. -/
theorem exp_logit (A B C : ℕ → ℕ → ℕ → ℝ) (b h n u : ℕ) : Real.exp (logit A B b h n u) = (2 : ℝ) ^ (scaled A B C).dot b (64 * h) n u := by
  have hl : Real.log 2 ≠ 0 := (Real.log_pos one_lt_two).ne'
  rw [Real.rpow_def_of_pos two_pos]
  congr 1
  unfold logit Inputs.dot scaled
  rw [Finset.sum_mul, Finset.mul_sum]
  refine Finset.sum_congr rfl fun l _ => ?_
  field_simp

include h0 in
theorem query (i : S4x4096x16x64.Idx) : val_main_v0 (F := Ideal) x0 i = (A (i 0).val (i 1).val (64 * (i 2).val + (i 3).val) : EReal) := by
  have a0 : (i 0).val < 4 := (i 0).isLt
  have a1 : (i 1).val < 4096 := (i 1).isLt
  have a2 : (i 2).val < 16 := (i 2).isLt
  have a3 : (i 3).val < 64 := (i 3).isLt
  rw [val_main_v0_apply, h0]
  congr 2 <;> (simp only [idx_main_v0]; omega)

include h2 in
theorem value (i : S4x4096x8x128.Idx) : val_main_v2 (F := Ideal) x2 i = (C (i 0).val (i 1).val (128 * (i 2).val + (i 3).val) : EReal) := by
  have a0 : (i 0).val < 4 := (i 0).isLt
  have a1 : (i 1).val < 4096 := (i 1).isLt
  have a2 : (i 2).val < 8 := (i 2).isLt
  have a3 : (i 3).val < 128 := (i 3).isLt
  rw [val_main_v2_apply, h2]
  congr 2 <;> (simp only [idx_main_v2]; omega)

include h0 h1 in
theorem logits (i : S4x16x4096x4096.Idx) : val_main_v15 (F := Ideal) x0 x1 i = (logit A B (i 0).val (i 1).val (i 2).val (i 3).val : EReal) := by
  rw [val_main_v15_apply, val_main_v13_apply, val_main_v14_apply, val_main_cst_2_apply, Ideal.ofBits_def, eighth]
  show _ * _ = _
  unfold logit
  rw [EReal.coe_mul, coe_sum]
  refine congrArg₂ (· * ·) (Finset.sum_congr rfl fun l _ => ?_) rfl
  rw [query h0, show val_main_v1 (F := Ideal) x1 = val_main_v0 (F := Ideal) x1 from rfl, query h1, ← EReal.coe_mul]

include h0 h1 in
theorem masked (i : S4x16x4096x4096.Idx) :
    val_main_v21 (F := Ideal) x0 x1 i = if (i 3).val / 64 ≤ (i 2).val / 64 then (logit A B (i 0).val (i 1).val (i 2).val (i 3).val : EReal) else ⊥ := by
  rw [val_main_v21_apply, val_main_call1_v1_apply, logits h0 h1, val_main_call1_v2_apply, val_main_call1_v0_apply, val_main_cst_3_apply, Ideal.ofBits_def, below]
  have e := mask (idx_main_call1_v1 i)
  unfold Scalar.select
  by_cases h : (i 3).val / 64 ≤ (i 2).val / 64
  · rw [if_pos h, if_pos (e.mpr h)]
  · rw [if_neg h, if_neg fun hc => h (e.mp hc)]

include h0 h1 in
/-- What is taken off a row of logits is a real. -/
theorem greatest (i : S4x16x4096.Idx) : ∃ M : ℝ, val_main_v24 (F := Ideal) x0 x1 i = (M : EReal) := by
  have a2 : (i 2).val < 4096 := (i 2).isLt
  have e : val_main_v22 (F := Ideal) x0 x1 i = Finset.univ.sup fun k : Fin 4096 => val_main_v21 (F := Ideal) x0 x1 (idx_main_v29 i k) := by
    unfold val_main_v22
    generalize val_main_v21 (F := Ideal) x0 x1 = y
    refine (Host.reduce_eq_fold_single (α := EReal) (max : EReal → EReal → EReal) y _ reducesTo_S4x16x4096x4096_S4x16x4096_d3 (by decide) h_S_ i).trans ?_
    rw [val_main_cst_4_apply, Ideal.ofBits_def, below]
    refine Eq.trans (congrArg (fun f => Finset.fold max (⊥ : EReal) f (Finset.univ : Finset (Fin 4096))) (funext fun k => ?_)) rfl
    exact congrArg y (funext fun a => Fin.ext (by match a with | ⟨0, _⟩ => rfl | ⟨1, _⟩ => rfl | ⟨2, _⟩ => rfl | ⟨3, _⟩ => rfl))
  rw [val_main_v24_apply, val_main_v23_apply, val_main_cst_5_apply, Ideal.ofBits_def, below, e]
  exact greatest_real ⊥ (.inl rfl) _ (fun k : Fin 4096 => k.val / 64 ≤ (i 2).val / 64) (fun k => logit A B (i 0).val (i 1).val (i 2).val k.val)
    (fun k => masked h0 h1 (idx_main_v29 i k)) ⟨⟨(i 2).val, a2⟩, le_rfl⟩

include h0 h1 in
/-- The softmax. -/
theorem softmax (i : S4x16x4096x4096.Idx) : val_main_v32 (F := Ideal) x0 x1 i
    = (((scaled A B C).wt (i 0).val (64 * (i 1).val) (i 2).val (i 3).val / (scaled A B C).den (i 0).val (64 * (i 1).val) (i 2).val 4096 : ℝ) : EReal) := by
  have a2 : (i 2).val < 4096 := (i 2).isLt
  obtain ⟨M, hM⟩ := greatest h0 h1 (idx_main_v25 (idx_main_v26 i))
  have e : ∀ k : Fin 4096, val_main_v28 (F := Ideal) x0 x1 (idx_main_v29 (idx_main_v25 (idx_main_v26 i)) k)
      = ((Real.exp (-M) * (scaled A B C).wt (i 0).val (64 * (i 1).val) (i 2).val k.val : ℝ) : EReal) := by
    intro k
    have hk : val_main_v26 (F := Ideal) x0 x1 (idx_main_v29 (idx_main_v25 (idx_main_v26 i)) k) = (M : EReal) := by
      rw [val_main_v26_apply, val_main_v25_apply, ← hM]
    rw [val_main_v28_apply, val_main_v27_apply, hk, masked h0 h1]
    show Ideal.exp ((if k.val / 64 ≤ (i 2).val / 64 then (logit A B (i 0).val (i 1).val (i 2).val k.val : EReal) else ⊥) - (M : EReal)) = _
    unfold Inputs.wt weight
    split_ifs
    · rw [← EReal.coe_sub, Ideal.exp_coe, ← exp_logit, ← Real.exp_add, neg_add_eq_sub]
    · rw [EReal.bot_sub, Ideal.exp_bot]; simp
  have hd : val_main_v31 (F := Ideal) x0 x1 i = ((Real.exp (-M) * (scaled A B C).den (i 0).val (64 * (i 1).val) (i 2).val 4096 : ℝ) : EReal) := by
    rw [val_main_v31_apply, val_main_v30_apply, val_main_v29_apply, val_main_cst_6_apply, Ideal.ofBits_def, Ideal.ofBits_zero_f32, zero_add]
    unfold Inputs.den
    rw [Finset.mul_sum, Finset.sum_range, coe_sum]
    exact Finset.sum_congr rfl fun k _ => e k
  have hn : val_main_v28 (F := Ideal) x0 x1 i = ((Real.exp (-M) * (scaled A B C).wt (i 0).val (64 * (i 1).val) (i 2).val (i 3).val : ℝ) : EReal) := by
    refine Eq.trans (congrArg _ (funext fun a => Fin.ext ?_)) (e (i 3))
    match a with | ⟨0, _⟩ => rfl | ⟨1, _⟩ => rfl | ⟨2, _⟩ => rfl | ⟨3, _⟩ => rfl
  have hp := (scaled A B C).den_pos (i 0).val (64 * (i 1).val) (i 2).val a2
  rw [val_main_v32_apply, hn, hd]
  rw [Ideal.hostDivf_def, Ideal.div_coe (mul_ne_zero (Real.exp_pos _).ne' hp.ne'), ← EReal.coe_mul]
  generalize (scaled A B C).den (i 0).val (64 * (i 1).val) (i 2).val 4096 = D at hp ⊢
  have := (Real.exp_pos (-M)).ne'
  refine congrArg _ ?_
  field_simp

/-- The sixteen heads as eight pairs of two. -/
theorem heads (j : S4x8x2x4096x4096.Idx) : (idx_main_v33 j 0).val = (j 0).val ∧ (idx_main_v33 j 1).val = 2 * (j 1).val + (j 2).val
    ∧ (idx_main_v33 j 2).val = (j 3).val ∧ (idx_main_v33 j 3).val = (j 4).val := by
  have a0 : (j 0).val < 4 := (j 0).isLt
  have a1 : (j 1).val < 8 := (j 1).isLt
  have a2 : (j 2).val < 2 := (j 2).isLt
  have a3 : (j 3).val < 4096 := (j 3).isLt
  have a4 : (j 4).val < 4096 := (j 4).isLt
  simp only [idx_main_v33]
  generalize (j 0).val = b at *
  generalize (j 1).val = p at *
  generalize (j 2).val = z at *
  generalize (j 3).val = n at *
  generalize (j 4).val = u at *
  refine ⟨?_, ?_, ?_, ?_⟩ <;> omega

/-- A pair's first head, and its second. -/
theorem first_of (i : S4x8x4096x4096.Idx) : (idx_main_v34 (idx_main_v35 i) 0).val = (i 0).val ∧ (idx_main_v34 (idx_main_v35 i) 1).val = (i 1).val
    ∧ (idx_main_v34 (idx_main_v35 i) 2).val = 0 ∧ (idx_main_v34 (idx_main_v35 i) 3).val = (i 2).val ∧ (idx_main_v34 (idx_main_v35 i) 4).val = (i 3).val := by
  have a0 : (i 0).val < 4 := (i 0).isLt
  have a1 : (i 1).val < 8 := (i 1).isLt
  have a2 : (i 2).val < 4096 := (i 2).isLt
  have a3 : (i 3).val < 4096 := (i 3).isLt
  simp only [idx_main_v34, idx_main_v35]
  generalize (i 0).val = b at *
  generalize (i 1).val = p at *
  generalize (i 2).val = n at *
  generalize (i 3).val = u at *
  refine ⟨?_, ?_, ?_, ?_, ?_⟩ <;> first | trivial | omega

theorem second_of (i : S4x8x4096x4096.Idx) : (idx_main_v36 (idx_main_v37 i) 0).val = (i 0).val ∧ (idx_main_v36 (idx_main_v37 i) 1).val = (i 1).val
    ∧ (idx_main_v36 (idx_main_v37 i) 2).val = 1 ∧ (idx_main_v36 (idx_main_v37 i) 3).val = (i 2).val ∧ (idx_main_v36 (idx_main_v37 i) 4).val = (i 3).val := by
  have a0 : (i 0).val < 4 := (i 0).isLt
  have a1 : (i 1).val < 8 := (i 1).isLt
  have a2 : (i 2).val < 4096 := (i 2).isLt
  have a3 : (i 3).val < 4096 := (i 3).isLt
  simp only [idx_main_v36, idx_main_v37]
  generalize (i 0).val = b at *
  generalize (i 1).val = p at *
  generalize (i 2).val = n at *
  generalize (i 3).val = u at *
  refine ⟨?_, ?_, ?_, ?_, ?_⟩ <;> first | trivial | omega

variable {L : ℝ} (hL : ∀ i, val_main_v11 (F := Ideal) x3 x4 x5 x6 i = (L : EReal))

include h0 h1 hL in
/-- The difference of a pair's two softmaxes. -/
theorem difference (i : S4x8x4096x4096.Idx) : val_main_v40 (F := Ideal) x0 x1 x3 x4 x5 x6 i
    = (((scaled A B C).wt (i 0).val (128 * (i 1).val) (i 2).val (i 3).val / (scaled A B C).den (i 0).val (128 * (i 1).val) (i 2).val 4096
      - L * ((scaled A B C).wt (i 0).val (128 * (i 1).val + 64) (i 2).val (i 3).val / (scaled A B C).den (i 0).val (128 * (i 1).val + 64) (i 2).val 4096) : ℝ) : EReal) := by
  have a0 : (i 0).val < 4 := (i 0).isLt
  have a1 : (i 1).val < 8 := (i 1).isLt
  have a2 : (i 2).val < 4096 := (i 2).isLt
  have a3 : (i 3).val < 4096 := (i 3).isLt
  have s0 : val_main_v32 (F := Ideal) x0 x1 (idx_main_v33 (idx_main_v34 (idx_main_v35 i)))
      = (((scaled A B C).wt (i 0).val (128 * (i 1).val) (i 2).val (i 3).val / (scaled A B C).den (i 0).val (128 * (i 1).val) (i 2).val 4096 : ℝ) : EReal) := by
    obtain ⟨u0, u1, u2, u3, u4⟩ := first_of i
    obtain ⟨p0, p1, p2, p3⟩ := heads (idx_main_v34 (idx_main_v35 i))
    rw [softmax (C := C) h0 h1, p0, p1, p2, p3, u0, u1, u2, u3, u4, show 64 * (2 * (i 1).val + 0) = 128 * (i 1).val by omega]
  have s1 : val_main_v32 (F := Ideal) x0 x1 (idx_main_v33 (idx_main_v36 (idx_main_v37 i)))
      = (((scaled A B C).wt (i 0).val (128 * (i 1).val + 64) (i 2).val (i 3).val / (scaled A B C).den (i 0).val (128 * (i 1).val + 64) (i 2).val 4096 : ℝ) : EReal) := by
    obtain ⟨u0, u1, u2, u3, u4⟩ := second_of i
    obtain ⟨p0, p1, p2, p3⟩ := heads (idx_main_v36 (idx_main_v37 i))
    rw [softmax (C := C) h0 h1, p0, p1, p2, p3, u0, u1, u2, u3, u4, show 64 * (2 * (i 1).val + 1) = 128 * (i 1).val + 64 by omega]
  rw [val_main_v40_apply, val_main_v39_apply, val_main_v38_apply, hL, val_main_v35_apply, val_main_v34_apply, val_main_v33_apply, val_main_v37_apply, val_main_v36_apply,
    val_main_v33_apply, s0, s1, EReal.coe_sub, EReal.coe_mul]
  rfl

include h0 h1 h2 hL in
/-- A pair's result before its norm. -/
theorem result (i : S4x4096x8x128.Idx) : val_main_v42 (F := Ideal) x0 x1 x2 x3 x4 x5 x6 i
    = ((scaled A B C).out L (i 0).val (i 1).val (128 * (i 2).val) (i 3).val : EReal) := by
  rw [val_main_v42_apply, val_main_v41_apply]
  have e : ∀ k : Fin 4096, _ := fun k => congrArg₂ (· * ·) (value h2 (lidx_main_v41 (idx_main_v42 i) k)) (difference (C := C) h0 h1 hL (ridx_main_v41 (idx_main_v42 i) k))
  rw [Finset.sum_congr rfl fun k _ => e k]
  simp only [← EReal.coe_mul]
  rw [← coe_sum]
  congr 1
  unfold Inputs.out Inputs.num
  rw [Finset.sum_range, Finset.sum_range, Finset.sum_div, Finset.sum_div, Finset.mul_sum, ← Finset.sum_sub_distrib]
  refine Finset.sum_congr rfl fun k _ => ?_
  show C (i 0).val k.val (128 * (i 2).val + (i 3).val) * _ = _ * C (i 0).val k.val (128 * (i 2).val + (i 3).val) / _ - L * (_ * C (i 0).val k.val (128 * (i 2).val + (i 3).val) / _)
  ring

include h0 h1 h2 hL in
/-- The reference's result. -/
theorem final (x7 : (⟨S128, .f32⟩ : BufTy).Contents (Elt Ideal)) (i : S4x4096x1024.Idx) : val_main_v59 (F := Ideal) x0 x1 x2 x3 x4 x5 x6 x7 i
    = normed (fun e => ((scaled A B C).out L (i 0).val (i 1).val (128 * ((i 2).val / 128)) e.val : EReal)) (x7 (ix1 ⟨(i 2).val % 128, Nat.mod_lt _ (by omega)⟩))
      ⟨(i 2).val % 128, Nat.mod_lt _ (by omega)⟩ := by
  have a0 : (i 0).val < 4 := (i 0).isLt
  have a1 : (i 1).val < 4096 := (i 1).isLt
  have a2 : (i 2).val < 1024 := (i 2).isLt
  rw [val_main_v59_apply, val_main_v58_apply, val_main_v57_apply, val_main_v56_apply, val_main_cst_10_apply, val_main_v55_apply, val_main_v54_apply, val_main_v53_apply,
    val_main_v52_apply, val_main_v51_apply, val_main_v50_apply, val_main_v49_apply, val_main_v48_apply, val_main_cst_9_apply, val_main_v47_apply, val_main_v46_apply,
    val_main_cst_8_apply, val_main_v45_apply, val_main_v44_apply, val_main_cst_7_apply]
  have e0 : (idx_main_v58 i 0).val = (i 0).val := by simp only [idx_main_v58]; omega
  have e1 : (idx_main_v58 i 1).val = (i 1).val := by simp only [idx_main_v58]; omega
  have e2 : 128 * (idx_main_v58 i 2).val = 128 * ((i 2).val / 128) := by simp only [idx_main_v58]; omega
  have e3 : (idx_main_v58 i 3).val = (i 2).val % 128 := by simp only [idx_main_v58]; omega
  have hr : ∀ j : S4x4096x8x128.Idx, (j 0).val = (idx_main_v58 i 0).val → (j 1).val = (idx_main_v58 i 1).val → (j 2).val = (idx_main_v58 i 2).val →
      val_main_v42 (F := Ideal) x0 x1 x2 x3 x4 x5 x6 j = ((scaled A B C).out L (i 0).val (i 1).val (128 * ((i 2).val / 128)) (j 3).val : EReal) := by
    intro j j0 j1 j2
    rw [result h0 h1 h2 hL, j0, j1, j2, e0, e1, e2]
  simp only [val_main_v43_apply]
  rw [hr _ rfl rfl rfl, Finset.sum_congr rfl fun k _ => congrArg (fun y => FloatOps.mulf (F := Ideal) (φ := .f32) y y)
    (hr (idx_main_v44 (idx_main_v45 (idx_main_v51 (idx_main_v58 i))) k) rfl rfl rfl), e3]
  rw [show idx_main_v53 (idx_main_v54 (idx_main_v58 i)) = ix1 ⟨(i 2).val % 128, Nat.mod_lt _ (by omega)⟩ from
    funext fun a => Fin.ext (by match a with | ⟨0, _⟩ => exact e3)]
  unfold normed
  rw [Ideal.ofBits_def, Ideal.ofBits_zero_f32, zero_add]
  rfl

end Cert.ReferenceIdeal.Rows
-- ==== Proof.Final.lean ====
/- The kernel's result after all its grid points, and that the reference's is the same. -/
module

public import proofs.«01_k».proof.Proof.HostOps
public import proofs.«01_k».proof.Proof.Reference

@[expose] public section

set_option maxRecDepth 16384

noncomputable section

namespace Cert.KernelIdeal.Head

open Cert.KernelIdeal Cert.KernelIdeal.Gen Idealize.ShloMosaic Idealize.ShloMosaic.TcCoe

variable (m : (ℓ : Loc nD τ sig) → Buf (Elt Ideal) ℓ) (c : Dev nD)

/-- The attention's result: at a pair of heads, the norm of the difference of the two. -/
def attention (L : ℝ) : FVec Ideal S4x4096x1024 .bf16 := fun i =>
  normed (fun e => ((inputs m c).out L (i 0).val (i 1).val (128 * ((i 2).val / 128)) e.val : EReal)) (argG m c (ix1 ⟨(i 2).val % 128, Nat.mod_lt _ (by omega)⟩))
    ⟨(i 2).val % 128, Nat.mod_lt _ (by omega)⟩

/-- It depends on the coordinates alone. -/
theorem attention_at (L : ℝ) (i : S4x4096x1024.Idx) (b n w p : ℕ) (l : Fin 128) (h0 : (i 0).val = b) (h1 : (i 1).val = n) (h2 : (i 2).val = 512 * w + (128 * p + l.val)) :
    attention m c L i = normed (fun e => ((inputs m c).out L b n (512 * w + 128 * p) e.val : EReal)) (argG m c (ix1 l)) l := by
  have e1 : (⟨(i 2).val % 128, Nat.mod_lt _ (by omega)⟩ : Fin 128) = l := Fin.ext (by show (i 2).val % 128 = l.val; omega)
  have e2 : 128 * ((i 2).val / 128) = 512 * w + 128 * p := by omega
  simp only [attention, e1, e2, h0, h1]

/-- The kernel's result array. -/
theorem result_array (H : ∀ t, Holds m c (inputs m c) t) (L : ℝ) (hL : lambda m c = (L : EReal)) :
    (dats m 0 c).arrAt 5 cfg0.N = attention m c L := by
  refine (dats m 0 c).arrAt_eq_of_covers 5 (attention m c L) (by decide +kernel) fun t hf y => ?_
  have h7 : t.val % 8 = 7 := (flush0_5 t).mp hf
  obtain ⟨i0, i1, i2⟩ := index_o t
  blk_simp
  rw [after0_5]
  obtain ⟨z, r, x, rfl⟩ : ∃ (z : Fin 1) (r x : Fin 512), y = ix3 z r x := ⟨y 0, y 1, y 2, by funext a; fin_cases a <;> rfl⟩
  obtain rfl : z = 0 := Subsingleton.elim _ _
  obtain ⟨p, l, rfl⟩ : ∃ (p : Fin 4) (l : Fin 128), x = ⟨128 * p.val + l.val, by omega⟩ :=
    ⟨⟨x.val / 128, by omega⟩, ⟨x.val % 128, by omega⟩, Fin.ext (by show x.val = 128 * (x.val / 128) + x.val % 128; omega)⟩
  refine (block_last H t h7 L ((lam_eq m c t).trans hL) r p l).trans ?_
  rw [(read_g m c t l).trans (host_g m c l)]
  refine (attention_at m c L _ _ _ (t.val / 64 % 2) p.val l ?_ ?_ ?_).symm <;> blk_simp [i0, i1, i2]
  all_goals first | done | omega | (simp; done) | (simp; omega)

end Cert.KernelIdeal.Head

namespace Cert.ReferenceIdeal.Rows

open Cert.ReferenceIdeal Cert.ReferenceIdeal.Read Idealize.ShloMosaic

/-- A sum over the indices of a vector is a sum over its coordinate. -/
theorem sum_vec (f : S64.Idx → EReal) : ∑ j : S64.Idx, f j = ∑ x : Fin 64, f (ix1 x) := by
  refine (Fintype.sum_equiv ⟨fun x => ix1 x, fun j => j 0, fun x => rfl, fun j => ?_⟩ _ _ fun x => rfl).symm
  funext a
  match a with
  | ⟨0, _⟩ => rfl

/-- The reference's lambda. -/
theorem lambda_ref (x3 x4 x5 x6 : (⟨S64, .f32⟩ : BufTy).Contents (Elt Ideal)) (i : S_.Idx) : val_main_v11 (F := Ideal) x3 x4 x5 x6 i
    = Ideal.exp (∑ x : Fin 64, (x3 (ix1 x) : EReal) * (x4 (ix1 x) : EReal)) - Ideal.exp (∑ x : Fin 64, (x5 (ix1 x) : EReal) * (x6 (ix1 x) : EReal)) + Ideal.ofBits .f32 0x3EB60549#32 := by
  rw [val_main_v11_apply, val_main_v10_apply, val_main_v6_apply, val_main_v9_apply, val_main_v5_apply, val_main_v8_apply, val_main_cst_apply, val_main_cst_0_apply, val_main_cst_1_apply,
    sum_vec, sum_vec]
  simp only [Ideal.ofBits_def, Ideal.ofBits_zero_f32, zero_add]
  rfl

end Cert.ReferenceIdeal.Rows
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.FeedReference
public import proofs.«01_k».proof.Proof.Output
public import proofs.«01_k».proof.Proof.Norm
public import proofs.«01_k».proof.Proof.Index
public import proofs.«01_k».proof.Proof.Gate
public import proofs.«01_k».proof.Proof.Queries
public import proofs.«01_k».proof.Proof.Sums
public import proofs.«01_k».proof.Proof.SampleNorm
public import proofs.«01_k».proof.Proof.SampleGate
public import proofs.«01_k».proof.Proof.SampleIndex
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Finite
public import proofs.«01_k».proof.Proof.Final
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

attribute [local instance] Cert.Pre_finite.facts

open Cert.KernelIdeal.Head in
/-- The two results are one. -/
theorem algebraic : algebraic_KernelIdeal_ReferenceIdeal_pre_finite := by
  intro m g m' g' hpre hag
  have hex : ∀ c : Dev Cert.KernelIdeal.nD, ∃ L : ℝ, lambda m c = (L : EReal) ∧ ∀ t, Holds m c (inputs m c) t := fun c => by
    obtain ⟨hq, hk, hv, ha, hb, hc, hd⟩ := Cert.Pre_finite.reals _ _ _ _ _ _ _ _ (hpre c)
    obtain ⟨L, hL⟩ := lambda_real m c ha hb hc hd
    exact ⟨L, hL, holds m c hq hk hv⟩
  choose L hL H using hex
  refine ⟨fun c => attention m c (L c), (θ_run _ _ _).mono (fun r h c => ⟨((h c).1).trans (result_array m c (H c) (L c) (hL c)), (h c).2⟩) (Cert.KernelIdeal.Value.run_blocks m g),
    (θ_run _ _ _).mono (fun r h c => ⟨((h c).1).trans ?_, (h c).2⟩) (Cert.ReferenceIdeal.Value.run m' g')⟩
  obtain ⟨hq, hk, hv, -⟩ := Cert.Pre_finite.reals _ _ _ _ _ _ _ _ (hpre c)
  obtain ⟨e0, e1, e2, e3, e4, e5, e6, e7⟩ := hag c
  rw [Cert.ReferenceIdeal.Read.val_main_v59_eq, e0, e1, e2, e3, e4, e5, e6, e7]
  funext i
  refine Cert.ReferenceIdeal.Rows.final (A := reals (argQ m c)) (B := reals (argK m c)) (C := reals (argV m c)) (L := L c) ?_ ?_ ?_ ?_ _ i
  · intro j
    exact (congrArg (argQ m c) (funext fun a => by fin_cases a <;> rfl)).trans (reals_eq _ hq (j 0) (j 1) (j 2))
  · intro j
    exact (congrArg (argK m c) (funext fun a => by fin_cases a <;> rfl)).trans (reals_eq _ hk (j 0) (j 1) (j 2))
  · intro j
    exact (congrArg (argV m c) (funext fun a => by fin_cases a <;> rfl)).trans (reals_eq _ hv (j 0) (j 1) (j 2))
  · intro j
    exact (Cert.ReferenceIdeal.Rows.lambda_ref _ _ _ _ j).trans (hL c)

open Cert.Kernel2Ideal.Feed in
/-- The two results of the feed-forward part are one. -/
theorem algebraic2 : algebraic_Kernel2Ideal_Reference2Ideal := by
  intro m g m' g' _ hag
  refine ⟨fun c => feed m c, (θ_run _ _ _).mono (fun r h c => ⟨((h c).1).trans (result_array m c), (h c).2⟩) (Cert.Kernel2Ideal.Value.run_blocks m g),
    (θ_run _ _ _).mono (fun r h c => ⟨((h c).1).trans ?_, (h c).2⟩) (Cert.Reference2Ideal.Feed.run_value m' g')⟩
  obtain ⟨e0, e1, e2, e3⟩ := hag c
  rw [e0, e1, e2, e3]
  rfl

open Cert.Output Cert.Output.Call in
/-- The output product: the two results are one. -/
theorem algebraic3 : algebraic_Kernel3Ideal_Reference3Ideal := by
  intro m g m' g' _ hag
  refine ⟨fun c => value (argA m c) (argW m c) (argX m c), (θ_run _ _ _).mono (fun r h c => ⟨((h c).1).trans (result_array m c), (h c).2⟩) (Cert.Kernel3Ideal.Value.run_blocks m g),
    (θ_run _ _ _).mono (fun r h c => ⟨((h c).1).trans ?_, (h c).2⟩) (run_value m' g')⟩
  obtain ⟨e0, e1, e2⟩ := hag c
  rw [e0, e1, e2]

open Cert.Norm Cert.Norm.Call in
/-- The last norm: the two results are one. -/
theorem algebraic4 : algebraic_Kernel4Ideal_Reference4Ideal := by
  intro m g m' g' _ hag
  refine ⟨fun c => value (argX m c) (argG m c), (θ_run _ _ _).mono (fun r h c => ⟨((h c).1).trans (result_array m c), (h c).2⟩) (Cert.Kernel4Ideal.Value.run_blocks m g),
    (θ_run _ _ _).mono (fun r h c => ⟨((h c).1).trans ?_, (h c).2⟩) (run_value m' g')⟩
  obtain ⟨e0, e1⟩ := hag c
  rw [e0, e1]

open Cert.Index Cert.Index.Call in
/-- The indexer's keys and weights: the two results are one. -/
theorem algebraic5 : algebraic_Kernel5Ideal_Reference5Ideal := by
  intro m g m' g' _ hag
  refine ⟨fun c => value (argX m c) (argG m c) (argW m c), (θ_run _ _ _).mono (fun r h c => ⟨((h c).1).trans (result_array m c), (h c).2⟩) (Cert.Kernel5Ideal.Value.run_blocks m g),
    (θ_run _ _ _).mono (fun r h c => ⟨((h c).1).trans ?_, (h c).2⟩) (run_value m' g')⟩
  obtain ⟨e0, e1, e2⟩ := hag c
  rw [e0, e1, e2]

open Cert.Gate Cert.Gate.Call in
/-- The forget gates: the two results are one. -/
theorem algebraic6 : algebraic_Kernel6Ideal_Reference6Ideal := by
  intro m g m' g' _ hag
  refine ⟨fun c => value (argX m c) (argG m c) (argW m c) (argB m c), (θ_run _ _ _).mono (fun r h c => ⟨((h c).1).trans (result_array m c), (h c).2⟩) (Cert.Kernel6Ideal.Value.run_blocks m g),
    (θ_run _ _ _).mono (fun r h c => ⟨((h c).1).trans ?_, (h c).2⟩) (run_value m' g')⟩
  obtain ⟨e0, e1, e2, e3⟩ := hag c
  rw [e0, e1, e2, e3]

open Cert.Queries Cert.Queries.Call in
/-- The indexer's queries: the two results are one. -/
theorem algebraic7 : algebraic_Kernel7Ideal_Reference7Ideal := by
  intro m g m' g' _ hag
  refine ⟨fun c => value (argX m c) (argG m c) (argW m c), (θ_run _ _ _).mono (fun r h c => ⟨((h c).1).trans (result_array m c), (h c).2⟩) (Cert.Kernel7Ideal.Value.run_blocks m g),
    (θ_run _ _ _).mono (fun r h c => ⟨((h c).1).trans ?_, (h c).2⟩) (run_value m' g')⟩
  obtain ⟨e0, e1, e2⟩ := hag c
  rw [e0, e1, e2]

open Cert.Sums Cert.Sums.Call in
/-- The running sum of the gates: each of the four results is one. -/
theorem algebraic8 : algebraic_Kernel8Ideal_Reference8Ideal := by
  intro m g m' g' _ hag
  refine ⟨fun c => total (argF m c), fun c => total (argF m c), fun c => rest (argF m c), fun c => rest' (argF m c),
    (θ_run _ _ _).mono (fun r h c => ?_) (Cert.Kernel8Ideal.Value.run_blocks m g), (θ_run _ _ _).mono (fun r h c => ?_) (run_value m' g')⟩
  · obtain ⟨h1, h2, h3, h4, h5⟩ := h c
    exact ⟨h1.trans (result1 m c), h2.trans (result2 m c), h3.trans (result3 m c), h4.trans (result4 m c), h5⟩
  · obtain ⟨h1, h2, h3, h4, h5⟩ := h c
    have e := hag c
    rw [e] at h1 h2 h3 h4
    exact ⟨h1, h2, h3, h4, h5⟩

open Cert.SampleNorm Cert.SampleNorm.Call in
/-- The last norm of the sample: the two results are one. -/
theorem algebraic9 : algebraic_Kernel9Ideal_Reference9Ideal := by
  intro m g m' g' _ hag
  refine ⟨fun c => value (argX m c) (argG m c), (θ_run _ _ _).mono (fun r h c => ⟨((h c).1).trans (result_array m c), (h c).2⟩) (Cert.Kernel9Ideal.Value.run_blocks m g),
    (θ_run _ _ _).mono (fun r h c => ⟨((h c).1).trans ?_, (h c).2⟩) (run_value m' g')⟩
  obtain ⟨e0, e1⟩ := hag c
  rw [e0, e1]

open Cert.SampleGate Cert.SampleGate.Call in
/-- The forget gates of the sample: the two results are one. -/
theorem algebraic10 : algebraic_Kernel10Ideal_Reference10Ideal := by
  intro m g m' g' _ hag
  refine ⟨fun c => value (argX m c) (argG m c) (argW m c) (argB m c), (θ_run _ _ _).mono (fun r h c => ⟨((h c).1).trans (result_array m c), (h c).2⟩) (Cert.Kernel10Ideal.Value.run_blocks m g),
    (θ_run _ _ _).mono (fun r h c => ⟨((h c).1).trans ?_, (h c).2⟩) (run_value m' g')⟩
  obtain ⟨e0, e1, e2, e3⟩ := hag c
  rw [e0, e1, e2, e3]

open Cert.SampleIndex Cert.SampleIndex.Call in
/-- The indexer's keys and weights of the sample: the two results are one. -/
theorem algebraic11 : algebraic_Kernel11Ideal_Reference11Ideal := by
  intro m g m' g' _ hag
  refine ⟨fun c => value (argX m c) (argG m c) (argW m c), (θ_run _ _ _).mono (fun r h c => ⟨((h c).1).trans (result_array m c), (h c).2⟩) (Cert.Kernel11Ideal.Value.run_blocks m g),
    (θ_run _ _ _).mono (fun r h c => ⟨((h c).1).trans ?_, (h c).2⟩) (run_value m' g')⟩
  obtain ⟨e0, e1, e2⟩ := hag c
  rw [e0, e1, e2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite.facts,
    fun m g _ => Cert.Kernel.Gen.frame m g,
    fun m g _ => Cert.KernelIdeal.Gen.frame m g,
    fun m g _ => Cert.KernelIdeal.Gen.frame m g,
    fun m g _ => (θ_run _ _ _).mono (fun r h => ⟨fun c => (h c).2, sem_eq_zero_of_no_sems (by decide) r.2⟩) (Cert.ReferenceIdeal.Value.run m g),
    fun m g _ => (θ_run _ _ _).mono (fun r h => ⟨fun c => (h c).2, sem_eq_zero_of_no_sems (by decide) r.2⟩) (Cert.ReferenceIdeal.Value.run m g),
    fun m g _ => Cert.Kernel2.Gen.frame m g,
    fun m g _ => Cert.Kernel2Ideal.Gen.frame m g,
    fun m g _ => (θ_run _ _ _).mono (fun r h => ⟨fun c => (h c).2, sem_eq_zero_of_no_sems (by decide) r.2⟩) (Cert.Reference2Ideal.Value.run m g),
    fun m g _ => Cert.Kernel3.Gen.frame m g,
    fun m g _ => Cert.Kernel3Ideal.Gen.frame m g,
    fun m g _ => (θ_run _ _ _).mono (fun r h => ⟨fun c => (h c).2, sem_eq_zero_of_no_sems (by decide) r.2⟩) (Cert.Reference3Ideal.Value.run m g),
    fun m g _ => Cert.Kernel4.Gen.frame m g,
    fun m g _ => Cert.Kernel4Ideal.Gen.frame m g,
    fun m g _ => (θ_run _ _ _).mono (fun r h => ⟨fun c => (h c).2, sem_eq_zero_of_no_sems (by decide) r.2⟩) (Cert.Reference4Ideal.Value.run m g),
    fun m g _ => Cert.Kernel5.Gen.frame m g,
    fun m g _ => Cert.Kernel5Ideal.Gen.frame m g,
    fun m g _ => (θ_run _ _ _).mono (fun r h => ⟨fun c => (h c).2, sem_eq_zero_of_no_sems (by decide) r.2⟩) (Cert.Reference5Ideal.Value.run m g),
    fun m g _ => Cert.Kernel6.Gen.frame m g,
    fun m g _ => Cert.Kernel6Ideal.Gen.frame m g,
    fun m g _ => (θ_run _ _ _).mono (fun r h => ⟨fun c => (h c).2, sem_eq_zero_of_no_sems (by decide) r.2⟩) (Cert.Reference6Ideal.Value.run m g),
    fun m g _ => Cert.Kernel7.Gen.frame m g,
    fun m g _ => Cert.Kernel7Ideal.Gen.frame m g,
    fun m g _ => (θ_run _ _ _).mono (fun r h => ⟨fun c => (h c).2, sem_eq_zero_of_no_sems (by decide) r.2⟩) (Cert.Reference7Ideal.Value.run m g),
    fun m g _ => Cert.Kernel8.Gen.frame m g,
    fun m g _ => Cert.Kernel8Ideal.Gen.frame m g,
    fun m g _ => (θ_run _ _ _).mono (fun r h => ⟨fun c => (h c).2.2.2.2, sem_eq_zero_of_no_sems (by decide) r.2⟩) (Cert.Reference8Ideal.Value.run m g),
    fun m g _ => Cert.Kernel9.Gen.frame m g,
    fun m g _ => Cert.Kernel9Ideal.Gen.frame m g,
    fun m g _ => (θ_run _ _ _).mono (fun r h => ⟨fun c => (h c).2, sem_eq_zero_of_no_sems (by decide) r.2⟩) (Cert.Reference9Ideal.Value.run m g),
    fun m g _ => Cert.Kernel10.Gen.frame m g,
    fun m g _ => Cert.Kernel10Ideal.Gen.frame m g,
    fun m g _ => (θ_run _ _ _).mono (fun r h => ⟨fun c => (h c).2, sem_eq_zero_of_no_sems (by decide) r.2⟩) (Cert.Reference10Ideal.Value.run m g),
    fun m g _ => Cert.Kernel11.Gen.frame m g,
    fun m g _ => Cert.Kernel11Ideal.Gen.frame m g,
    fun m g _ => (θ_run _ _ _).mono (fun r h => ⟨fun c => (h c).2, sem_eq_zero_of_no_sems (by decide) r.2⟩) (Cert.Reference11Ideal.Value.run m g),
    IdealRules.named_const.statement Cert.KernelIdeal.κ "mask" .f32 0xF149F2CA#32 ⊥ rfl,
    algebraic,
    trivial,
    algebraic2,
    trivial,
    algebraic3,
    trivial,
    algebraic4,
    trivial,
    algebraic5,
    trivial,
    algebraic6,
    trivial,
    algebraic7,
    IdealRules.named_const.statement Cert.Kernel8Ideal.κ "log2e" .f32 0x3FB8AA3B#32 (((Real.log 2)⁻¹ : ℝ) : EReal) rfl,
    algebraic8,
    trivial,
    algebraic9,
    trivial,
    algebraic10,
    trivial,
    algebraic11⟩

end Cert.Proof

end
